-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x8192 : Shape := ⟨3, ![8, 1, 8192]⟩
abbrev S2816x8192 : Shape := ⟨2, ![2816, 8192]⟩
abbrev S2816x256 : Shape := ⟨2, ![2816, 256]⟩
abbrev S2816 : Shape := ⟨1, ![2816]⟩
abbrev S8x8192 : Shape := ⟨2, ![8, 8192]⟩
abbrev S1x2816 : Shape := ⟨2, ![1, 2816]⟩
abbrev S8x2816 : Shape := ⟨2, ![8, 2816]⟩
abbrev S8x256 : Shape := ⟨2, ![8, 256]⟩
abbrev S256x8192 : Shape := ⟨2, ![256, 8192]⟩
abbrev S256x256 : Shape := ⟨2, ![256, 256]⟩
abbrev S1x256 : Shape := ⟨2, ![1, 256]⟩
abbrev S64x32x128 : Shape := ⟨3, ![64, 32, 128]⟩
abbrev S256x8x128 : Shape := ⟨3, ![256, 8, 128]⟩
abbrev S8x128 : Shape := ⟨2, ![8, 128]⟩
abbrev S512x128 : Shape := ⟨2, ![512, 128]⟩
abbrev S32x128 : Shape := ⟨2, ![32, 128]⟩
abbrev S1x32x128 : Shape := ⟨3, ![1, 32, 128]⟩
abbrev S8x1 : Shape := ⟨2, ![8, 1]⟩
abbrev S1x8x128 : Shape := ⟨3, ![1, 8, 128]⟩
abbrev S32x256 : Shape := ⟨2, ![32, 256]⟩
abbrev S64x256 : Shape := ⟨2, ![64, 256]⟩

abbrev nBuf : Space → Nat
  | .hbm => 9
  | .vmem => 14
  | .smem => 0
  | _ => 0

abbrev bufTy : (tb : Table) → Fin (tcTables nBuf tb) → BufTy
  | .hbm, ⟨0, _⟩ => ⟨S8x1x8192, .bf16⟩
  | .hbm, ⟨1, _⟩ => ⟨S2816x8192, .fp8e4m3⟩
  | .hbm, ⟨2, _⟩ => ⟨S2816x256, .i8⟩
  | .hbm, ⟨3, _⟩ => ⟨S2816, .f32⟩
  | .hbm, ⟨4, _⟩ => ⟨S8x8192, .bf16⟩
  | .hbm, ⟨5, _⟩ => ⟨S1x2816, .f32⟩
  | .hbm, ⟨6, _⟩ => ⟨S8x2816, .bf16⟩
  | .hbm, ⟨7, _⟩ => ⟨S8x8192, .fp8e4m3⟩
  | .hbm, ⟨8, _⟩ => ⟨S8x256, .i8⟩
  | .local _ .vmem, ⟨0, _⟩ => ⟨S8x8192, .bf16⟩
  | .local _ .vmem, ⟨1, _⟩ => ⟨S256x8192, .fp8e4m3⟩
  | .local _ .vmem, ⟨2, _⟩ => ⟨S256x8192, .fp8e4m3⟩
  | .local _ .vmem, ⟨3, _⟩ => ⟨S256x256, .i8⟩
  | .local _ .vmem, ⟨4, _⟩ => ⟨S256x256, .i8⟩
  | .local _ .vmem, ⟨5, _⟩ => ⟨S1x256, .f32⟩
  | .local _ .vmem, ⟨6, _⟩ => ⟨S1x256, .f32⟩
  | .local _ .vmem, ⟨7, _⟩ => ⟨S8x256, .bf16⟩
  | .local _ .vmem, ⟨8, _⟩ => ⟨S8x256, .bf16⟩
  | .local _ .vmem, ⟨9, _⟩ => ⟨S8x8192, .fp8e4m3⟩
  | .local _ .vmem, ⟨10, _⟩ => ⟨S8x256, .i8⟩
  | .local _ .vmem, ⟨11, _⟩ => ⟨S64x32x128, .fp8e4m3⟩
  | .local _ .vmem, ⟨12, _⟩ => ⟨S256x8x128, .f32⟩
  | .local _ .vmem, ⟨13, _⟩ => ⟨S256x256, .f32⟩
  | _, _ => ⟨S8x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8x1x8192 : Shape := ⟨3, ![8, 1, 8192]⟩
abbrev S2816x8192 : Shape := ⟨2, ![2816, 8192]⟩
abbrev S2816x256 : Shape := ⟨2, ![2816, 256]⟩
abbrev S2816 : Shape := ⟨1, ![2816]⟩
abbrev S8x8192 : Shape := ⟨2, ![8, 8192]⟩
abbrev S8x2816 : Shape := ⟨2, ![8, 2816]⟩
abbrev S8x256 : Shape := ⟨2, ![8, 256]⟩
abbrev S8x256x32 : Shape := ⟨3, ![8, 256, 32]⟩
abbrev S8x256x1 : Shape := ⟨3, ![8, 256, 1]⟩
abbrev S2816x256x32 : Shape := ⟨3, ![2816, 256, 32]⟩
abbrev S8x1x256x32 : Shape := ⟨4, ![8, 1, 256, 32]⟩
abbrev S1x2816x256x32 : Shape := ⟨4, ![1, 2816, 256, 32]⟩
abbrev S8x2816x256x32 : Shape := ⟨4, ![8, 2816, 256, 32]⟩
abbrev S8x2816x256 : Shape := ⟨3, ![8, 2816, 256]⟩
abbrev S8x1x256 : Shape := ⟨3, ![8, 1, 256]⟩
abbrev S1x2816x256 : Shape := ⟨3, ![1, 2816, 256]⟩
abbrev S1x2816 : Shape := ⟨2, ![1, 2816]⟩

abbrev nBuf : Space → Nat
  | .hbm => 8
  | .vmem => 7
  | .smem => 0
  | _ => 0

abbrev bufTy : (tb : Table) → Fin (tcTables nBuf tb) → BufTy
  | .hbm, ⟨0, _⟩ => ⟨S8x1x8192, .bf16⟩
  | .hbm, ⟨1, _⟩ => ⟨S2816x8192, .fp8e4m3⟩
  | .hbm, ⟨2, _⟩ => ⟨S2816x256, .i8⟩
  | .hbm, ⟨3, _⟩ => ⟨S2816, .f32⟩
  | .hbm, ⟨4, _⟩ => ⟨S8x8192, .bf16⟩
  | .hbm, ⟨5, _⟩ => ⟨S8x2816, .bf16⟩
  | .hbm, ⟨6, _⟩ => ⟨S8x8192, .fp8e4m3⟩
  | .hbm, ⟨7, _⟩ => ⟨S8x256, .i8⟩
  | .local _ .vmem, ⟨0, _⟩ => ⟨S8x8192, .bf16⟩
  | .local _ .vmem, ⟨1, _⟩ => ⟨S2816x8192, .fp8e4m3⟩
  | .local _ .vmem, ⟨2, _⟩ => ⟨S2816x256, .i8⟩
  | .local _ .vmem, ⟨3, _⟩ => ⟨S2816, .f32⟩
  | .local _ .vmem, ⟨4, _⟩ => ⟨S8x2816, .bf16⟩
  | .local _ .vmem, ⟨5, _⟩ => ⟨S8x8192, .fp8e4m3⟩
  | .local _ .vmem, ⟨6, _⟩ => ⟨S8x256, .i8⟩
  | _, _ => ⟨S8x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2816x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2816x256 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x256 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelFrame.Runs.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not, for any proof data whose array
    is `V`'s (`hA`) and whose body leaves the block in place (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not, for any proof data whose array
    is `V`'s (`hA`) and whose body leaves the block in place (`hafter`). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not, for any proof data whose array
    is `V`'s (`hA`) and whose body leaves the block in place (`hafter`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not, for any proof data whose array
    is `V`'s (`hA`) and whose body leaves the block in place (`hafter`). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a run: whatever the proof data, if its arrays are the contents at region entry (`hA`) and the run ends
    as `RDat.FramePost` says, the argument arrays end as they began. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c)⟩) h

/-! ## The body's branch conditions -/

/-- The condition of the body's `scf.if` (`k0_h1`), from the grid coordinates. -/
abbrev cond0_0 (i : grid0.Coords) : Prop := k0_cond1 i = 1#1
/-- It holds at the first point only — by arithmetic of the point. -/
theorem hcond0_0 : ∀ t : Fin cfg0.N, cond0_0 (grid0.coords t) ↔ t.val % 11 = 0 :=
  (fun t => by
    have ht : t.val < 11 := Nat.lt_of_lt_of_eq t.isLt N_0
    have e0 : (grid0.coords t 0).val = t.val / 1 % 11 := Pipeline.Grid.coords_val t 0 (by decide) rfl
    simp only [cond0_0, k0_cond1, e0]
    word_cmp
   : ∀ t : Fin grid0.N, cond0_0 (grid0.coords t) ↔ t.val % 11 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S8x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x8192 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x8192 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x256 .i8 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S64x32x128 .fp8e4m3 := Memref.whole cc0_scratch0
abbrev scM0_1 : Memref sig .tc .vmem S256x8x128 .f32 := Memref.whole cc0_scratch1
abbrev scM0_2 : Memref sig .tc .vmem S256x256 .f32 := Memref.whole cc0_scratch2

/-- The invariant between points: the scratch operands owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.KernelFrame.RunFirst.lean ====
module

public import proofs.«01_k».proof.Proof.KernelFrame.Runs

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 7820000 in
/-- The body at the first point (the `scf.if` taken), on whole staging memrefs: the inputs' at their contents, the outputs' (4, 5, 6) and the scratch at
    anything. It runs to the continuation that holds the inputs' as they were and the others at some contents. -/
theorem first_run (c : Dev nD) (i : grid0.Coords) (arg1 : Memref sig .tc .vmem S8x8192 .bf16) (harg1 : arg1.IsWhole) (arg2 : Memref sig .tc .vmem S256x8192 .fp8e4m3) (harg2 : arg2.IsWhole) (arg3 : Memref sig .tc .vmem S256x256 .i8) (harg3 : arg3.IsWhole) (arg4 : Memref sig .tc .vmem S1x256 .f32) (harg4 : arg4.IsWhole) (arg5 : Memref sig .tc .vmem S8x256 .bf16) (harg5 : arg5.IsWhole) (arg6 : Memref sig .tc .vmem S8x8192 .fp8e4m3) (harg6 : arg6.IsWhole) (arg7 : Memref sig .tc .vmem S8x256 .i8) (harg7 : arg7.IsWhole) (arg8 : Memref sig .tc .vmem S64x32x128 .fp8e4m3) (harg8 : arg8.IsWhole) (arg9 : Memref sig .tc .vmem S256x8x128 .f32) (harg9 : arg9.IsWhole) (arg10 : Memref sig .tc .vmem S256x256 .f32) (harg10 : arg10.IsWhole) (hc0 : cond0_0 i)
    (x0 : Vec F S8x8192 .bf16) (x1 : Vec F S256x8192 .fp8e4m3) (x2 : Vec F S256x256 .i8) (x3 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10) K := by
    intro E K
    simp only [cc0__kernel_eq_skeleton]; unfold cc0__kernel_skel
    simp only [k0_part179_eq_skeleton, k0_part110_eq_skeleton, k0_part109_eq_skeleton, k0_part108_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part180_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Hand

end
-- ==== Proof.KernelFrame.RunLater.lean ====
module

public import proofs.«01_k».proof.Proof.KernelFrame.RunFirst

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3056000 in
/-- The body at a later point (the `scf.if` not taken), on whole staging memrefs: the inputs' at their contents, the outputs' (4, 5, 6) and the scratch at
    anything. It runs to the continuation that holds the inputs' as they were and the others at some contents. -/
theorem later_run (c : Dev nD) (i : grid0.Coords) (arg1 : Memref sig .tc .vmem S8x8192 .bf16) (harg1 : arg1.IsWhole) (arg2 : Memref sig .tc .vmem S256x8192 .fp8e4m3) (harg2 : arg2.IsWhole) (arg3 : Memref sig .tc .vmem S256x256 .i8) (harg3 : arg3.IsWhole) (arg4 : Memref sig .tc .vmem S1x256 .f32) (harg4 : arg4.IsWhole) (arg5 : Memref sig .tc .vmem S8x256 .bf16) (harg5 : arg5.IsWhole) (arg6 : Memref sig .tc .vmem S8x8192 .fp8e4m3) (harg6 : arg6.IsWhole) (arg7 : Memref sig .tc .vmem S8x256 .i8) (harg7 : arg7.IsWhole) (arg8 : Memref sig .tc .vmem S64x32x128 .fp8e4m3) (harg8 : arg8.IsWhole) (arg9 : Memref sig .tc .vmem S256x8x128 .f32) (harg9 : arg9.IsWhole) (arg10 : Memref sig .tc .vmem S256x256 .f32) (harg10 : arg10.IsWhole) (hc0 : ¬cond0_0 i)
    (x0 : Vec F S8x8192 .bf16) (x1 : Vec F S256x8192 .fp8e4m3) (x2 : Vec F S256x256 .i8) (x3 : Vec F S1x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9 arg10 harg10) K := by
    intro E K
    simp only [cc0__kernel_eq_skeleton]; unfold cc0__kernel_skel
    simp only [k0_part179_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part180_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Hand

end
-- ==== Proof.KernelFrame.lean ====
module

public import proofs.«01_k».proof.Proof.KernelFrame.RunLater
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows 4, 5, 6: the frame says nothing of what the kernel leaves in them. -/
def forgets0 : Fin 7 → Bool := fun w => w.val == 4 || w.val == 5 || w.val == 6

/-- The proof data of the pipeline on core `c`: the arrays as the region finds them (`V`); after the body at point `t`
    each input's buffer at its block and the outputs at contents nothing names; the scratch at some contents; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the contents at region entry. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 1600000 in
/-- The body at any point: the inputs' memrefs hold their blocks, the point is the first or a later one, and that run
    applies; the scratch and the generator register are handed over at some contents and taken back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 11 := lt_of_lt_of_eq t.isLt (show cfg0.N = 11 from N_0)
  by_cases h0 : t.val % 11 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((first_run c (grid0.coords t) _ _ _ _ _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((later_run c (grid0.coords t) _ _ _ _ _ _ _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From any memory with zero counters every weakly fair execution of @main on the TensorCores terminates, with every
    input array of the pipeline unchanged and every other unscoped buffer as the region found it. Nothing is said of the
    outputs (windows 4, 5, 6). -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME at any `F`: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.HeadForm.lean ====
module

public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! What the quantiser computes from the staged `x`, written once for every row block, lane group and exponent bit. -/

/-- Block `j` of the 64 column blocks of an [8, 8192] array lies inside it. -/
theorem slices_cols (j : Fin 64) : S8x8192.Slices ![0, 128 * j.val] S8x128 :=
  ⟨rfl, fun a => match a with | 0 => by show 0 + 8 ≤ 8; omega | 1 => by show 128 * j.val + 128 ≤ 8192; omega⟩

/-- Block `j` of the 64 row blocks of a [512, 128] array lies inside it. -/
theorem slices_rows (j : Fin 64) : S512x128.Slices ![8 * j.val, 0] S8x128 :=
  ⟨rfl, fun a => match a with | 0 => by show 8 * j.val + 8 ≤ 512; omega | 1 => by show 0 + 128 ≤ 128; omega⟩

/-- The column of group `g` (row block `g / 4`, lane `32 (g % 4)`) lies inside a [512, 128] array. -/
theorem slices_group (g : Fin 256) : S512x128.Slices ![8 * (g.val / 4), 32 * (g.val % 4)] S8x1 :=
  ⟨rfl, fun a => match a with | 0 => by show 8 * (g.val / 4) + 8 ≤ 512; omega | 1 => by show 32 * (g.val % 4) + 1 ≤ 128; omega⟩

theorem inb_row256 (g : Fin 256) : ∀ a, (![g.val, 0, 0] : Fin 3 → Nat) a + S1x8x128.size a ≤ S256x8x128.size a
  | 0 => by show g.val + 1 ≤ 256; omega
  | 1 => by show 0 + 8 ≤ 8; omega
  | 2 => by show 0 + 128 ≤ 128; omega

theorem inb_row64 (j : Fin 64) : ∀ a, (![j.val, 0, 0] : Fin 3 → Nat) a + S1x32x128.size a ≤ S64x32x128.size a
  | 0 => by show j.val + 1 ≤ 64; omega
  | 1 => by show 0 + 32 ≤ 32; omega
  | 2 => by show 0 + 128 ≤ 128; omega

/-- `x` with its 64 column blocks stacked as row blocks: row `8 j + t`, lane `l` holds `x (t, 128 j + l)`. -/
def xsOf (x : Vec F S8x8192 .bf16) : FVec F S512x128 .f32 :=
  concatenate S512x128 0 (List.ofFn fun j : Fin 64 => ⟨S8x128, extractStridedSlice S8x128 ![0, 128 * j.val] (k0_pay2 x) (slices_cols j)⟩)
    concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S512x128_d0

/-- The lane number of every element of a [512, 128] array. -/
def laneOf : IVec S512x128 32 := iota .tc S512x128 32 [1] iota_S512x128_d1_w32

/-- One step of the maximum over a lane group: each element against the one `s` lanes up or down (`up = 128 - s`). -/
def maxStep (s up : BitVec 32) (v : FVec F S512x128 .f32) : FVec F S512x128 .f32 :=
  maximumf v (select (cmpi .eq (andi laneOf (broadcast S512x128 s)) (broadcast S512x128 0#32))
    (dynamicRotate 1 up none v rotates_S512x128_d1) (dynamicRotate 1 s none v rotates_S512x128_d1))

/-- The largest magnitude of each element's group of 32 lanes. -/
def amaxOf (X : FVec F S512x128 .f32) : FVec F S512x128 .f32 :=
  maxStep 16#32 112#32 (maxStep 8#32 120#32 (maxStep 4#32 124#32 (maxStep 2#32 126#32 (maxStep 1#32 127#32 (absf X)))))

/-- The largest magnitude of each element's group over 448. -/
def ratioOf (X : FVec F S512x128 .f32) : FVec F S512x128 .f32 :=
  mulf (amaxOf X) (broadcast S512x128 (Scalar.ofBits .f32 0x3B124925#32))

/-- One bit of the exponent field: set where `v` is not below the power of two with that bit set. -/
def fieldStep {s : Shape} (v : FVec F s .f32) (bit : BitVec 32) (f : IVec s 32) : IVec s 32 :=
  select (cmpf .olt v (bitcastToFloat .f32 (shli (addi f (broadcast s bit)) (broadcast s 23#32)))) f (addi f (broadcast s bit))

/-- The exponent field of every element, found bit by bit. -/
def fieldOf {s : Shape} (v : FVec F s .f32) : IVec s 32 :=
  fieldStep v 1#32 (fieldStep v 2#32 (fieldStep v 4#32 (fieldStep v 8#32 (fieldStep v 16#32 (fieldStep v 32#32
    (fieldStep v 64#32 (fieldStep v 128#32 (broadcast s 0#32))))))))

/-- The exponent of each element's group. -/
def expOf (X : FVec F S512x128 .f32) : IVec S512x128 32 :=
  minsi (broadcast S512x128 127#32) (maxsi (broadcast S512x128 4294967169#32)
    (select (cmpi .eq (fieldOf (ratioOf X)) (broadcast S512x128 0#32)) (broadcast S512x128 0#32)
      (subi (fieldOf (ratioOf X)) (broadcast S512x128 126#32))))

/-- Every element over its group's power of two, clipped to ±448. -/
def scaledOf (X : FVec F S512x128 .f32) : FVec F S512x128 .f32 :=
  minimumf (broadcast S512x128 (Scalar.ofBits .f32 0x43E00000#32)) (maximumf (broadcast S512x128 (Scalar.ofBits .f32 0xC3E00000#32))
    (mulf X (bitcastToFloat .f32 (shli (subi (broadcast S512x128 127#32) (expOf X)) (broadcast S512x128 23#32)))))

/-- The power of two of each element's group. -/
def sxOf (X : FVec F S512x128 .f32) : FVec F S512x128 .f32 :=
  bitcastToFloat .f32 (shli (addi (expOf X) (broadcast S512x128 127#32)) (broadcast S512x128 23#32))

/-- The power of two of group `g` for each of the 8 rows, along all lanes. -/
def sxRow (S : FVec F S512x128 .f32) (g : Fin 256) : FVec F S8x128 .f32 :=
  broadcastTo S8x128 (shapeCast S8x1 (extractStridedSlice S8x1 ![8 * (g.val / 4), 32 * (g.val % 4)] S (slices_group g)) shapeCasts_S8x1_S8x1)
    broadcasts_S8x1_S8x128

/-- The lane group (0 to 3) of every element of an [8, 128] array. -/
def groupOfLane : IVec S8x128 32 :=
  k0_pay105 (k0_pay101 laneOf) 32#32 (k0_pay102 laneOf) (k0_pay103 laneOf) k0_pay104

/-- Row block `j` of the scaled array where the lane's group is `q`, zero elsewhere. -/
def lhsPart (S : FVec F S512x128 .f32) (j : Fin 64) (q : BitVec 32) : FVec F S8x128 .f32 :=
  select (cmpi .eq groupOfLane (broadcast S8x128 q)) (extractStridedSlice S8x128 ![8 * j.val, 0] S (slices_rows j))
    (broadcast S8x128 (Scalar.ofBits .f32 0x00000000#32))

/-- Row block `j` of the scaled array as the [32, 128] left operand: eight rows for each lane group. -/
def lhsRow (S : FVec F S512x128 .f32) (j : Fin 64) : FVec F S1x32x128 .fp8e4m3 :=
  shapeCast S1x32x128 (truncf .fp8e4m3 (concatenate S32x128 0
    [⟨S8x128, lhsPart S j 0#32⟩, ⟨S8x128, lhsPart S j 1#32⟩, ⟨S8x128, lhsPart S j 2#32⟩, ⟨S8x128, lhsPart S j 3#32⟩]
    concatenates_S8x128_S8x128_S8x128_S8x128_S32x128_d0) bitsLt_fp8e4m3_f32) shapeCasts_S32x128_S1x32x128

/-- The codes: the scaled array with its row blocks laid side by side again. -/
def codesOf (S : FVec F S512x128 .f32) : FVec F S8x8192 .fp8e4m3 :=
  truncf .fp8e4m3 (concatenate S8x8192 1 (List.ofFn fun j : Fin 64 => ⟨S8x128, extractStridedSlice S8x128 ![8 * j.val, 0] S (slices_rows j)⟩)
    concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x8192_d1) bitsLt_fp8e4m3_f32

/-- The powers of two of the `n` groups from `base`, group `base + l` in lane `l`: later lanes written over earlier ones. -/
def packOf (S : FVec F S512x128 .f32) (base : Nat) : (n : Nat) → base + n ≤ 256 → FVec F S8x128 .f32
  | 0, _ => broadcast S8x128 (Scalar.ofBits .f32 0x00000000#32)
  | n + 1, h => select (cmpi .eq (k0_pay106 laneOf) (broadcast S8x128 (BitVec.ofNat 32 n)))
      (sxRow S ⟨base + n, h⟩) (packOf S base n (Nat.le_of_succ_le h))

/-- The scales: the exponent field of the packed powers of two, as bytes. -/
def scalesOf (S : FVec F S512x128 .f32) : IVec S8x256 8 :=
  trunci 8 (fieldOf (concatenate S8x256 1 [⟨S8x128, packOf S 0 128 (by omega)⟩, ⟨S8x128, packOf S 128 128 (by omega)⟩]
    concatenates_S8x128_S8x128_S8x256_d1)) natLt_8_32

/-- The store of group `g`'s power of two into its row of the scale scratch. -/
def sxPiece (S : FVec F S512x128 .f32) (g : Fin 256) : View.Piece (Elt F) S256x8x128 .f32 :=
  ⟨Rect.unit (s := S256x8x128) ![g.val, 0, 0] S1x8x128.size (inb_row256 g), shapeCast S1x8x128 (sxRow S g) shapeCasts_S8x128_S1x8x128⟩

/-- The first `n` stores into the scale scratch, newest first. -/
def sxPieces (S : FVec F S512x128 .f32) : (n : Nat) → n ≤ 256 → List (View.Piece (Elt F) S256x8x128 .f32)
  | 0, _ => []
  | n + 1, h => sxPiece S ⟨n, h⟩ :: sxPieces S n (Nat.le_of_succ_le h)

/-- The store of row block `j` into its row of the left operand's scratch. -/
def lhsPiece (S : FVec F S512x128 .f32) (j : Fin 64) : View.Piece (Elt F) S64x32x128 .fp8e4m3 :=
  ⟨Rect.unit (s := S64x32x128) ![j.val, 0, 0] S1x32x128.size (inb_row64 j), lhsRow S j⟩

/-- The first `n` stores into the left operand's scratch, newest first. -/
def lhsPieces (S : FVec F S512x128 .f32) : (n : Nat) → n ≤ 64 → List (View.Piece (Elt F) S64x32x128 .fp8e4m3)
  | 0, _ => []
  | n + 1, h => lhsPiece S ⟨n, h⟩ :: lhsPieces S n (Nat.le_of_succ_le h)

end Cert.KernelIdeal.Hand

end
-- ==== Proof.HeadRun.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
set_option sl_exec.resultNames true in
/-- The quantiser (`k0_part109`, the body's region at grid point 0) run once: on a whole staged `x` and whole buffers of
    any contents it ends, and what it leaves in the code window, the scale window and the two scratch arrays are the
    lists of stores that the run finds. -/
def headRun (c : Dev nD) (i : grid0.Coords) (arg1 : Memref sig .tc .vmem S8x8192 .bf16) (harg1 : arg1.IsWhole) (arg2 : Memref sig .tc .vmem S256x8192 .fp8e4m3) (harg2 : arg2.IsWhole) (arg3 : Memref sig .tc .vmem S256x256 .i8) (harg3 : arg3.IsWhole) (arg4 : Memref sig .tc .vmem S1x256 .f32) (harg4 : arg4.IsWhole) (arg5 : Memref sig .tc .vmem S8x256 .bf16) (harg5 : arg5.IsWhole) (arg6 : Memref sig .tc .vmem S8x8192 .fp8e4m3) (harg6 : arg6.IsWhole) (arg7 : Memref sig .tc .vmem S8x256 .i8) (harg7 : arg7.IsWhole) (arg8 : Memref sig .tc .vmem S64x32x128 .fp8e4m3) (harg8 : arg8.IsWhole) (arg9 : Memref sig .tc .vmem S256x8x128 .f32) (harg9 : arg9.IsWhole) (arg10 : Memref sig .tc .vmem S256x256 .f32) (harg10 : arg10.IsWhole) (x0 : Vec F S8x8192 .bf16) :
    Σ' (L6 : List (View.Piece (Elt F) S8x8192 .fp8e4m3)) (L7 : List (View.Piece (Elt F) S8x256 .i8))
      (L8 : List (View.Piece (Elt F) S64x32x128 .fp8e4m3)), { L9 : List (View.Piece (Elt F) S256x8x128 .f32) //
      ∀ (E : Set ℕ) (f6 : arg6.view.ty.Contents (Elt F)) (f7 : arg7.view.ty.Contents (Elt F))
        (f8 : arg8.view.ty.Contents (Elt F)) (f9 : arg9.view.ty.Contents (Elt F)) (K : PUnit → sProp 𝕄),
        iprop((arg1.view.loc (c : Thread nD τ) ↦[arg1.view.set]{fullShare} harg1.unread x0)
            ∗ (arg6.view.loc (c : Thread nD τ) ↦[arg6.view.set]{fullShare} f6)
            ∗ (arg7.view.loc (c : Thread nD τ) ↦[arg7.view.set]{fullShare} f7)
            ∗ (arg8.view.loc (c : Thread nD τ) ↦[arg8.view.set]{fullShare} f8)
            ∗ (arg9.view.loc (c : Thread nD τ) ↦[arg9.view.set]{fullShare} f9)
            ∗ (iprop((arg1.view.loc (c : Thread nD τ) ↦[arg1.view.set]{fullShare} harg1.unread x0)
                ∗ (arg6.view.loc (c : Thread nD τ) ↦[arg6.view.set]{fullShare} arg6.view.writes (Elt F) f6 L6)
                ∗ (arg7.view.loc (c : Thread nD τ) ↦[arg7.view.set]{fullShare} arg7.view.writes (Elt F) f7 L7)
                ∗ (arg8.view.loc (c : Thread nD τ) ↦[arg8.view.set]{fullShare} arg8.view.writes (Elt F) f8 L8)
                ∗ (arg9.view.loc (c : Thread nD τ) ↦[arg9.view.set]{fullShare} arg9.view.writes (Elt F) f9 L9)) -∗ K ⟨⟩))
          ⊢ wp frame (wpE (defs₀ (F := F)) Variants.none c none) E (k0_part109 i arg1 harg1 arg2 harg2 arg3 harg3 arg4 harg4 arg5 harg5 arg6 harg6 arg7 harg7 arg8 harg8 arg9 harg9 arg10 harg10) K } := by
  refine ⟨?_, ?_, ?_, ?_, fun E f6 f7 f8 f9 K => ?run⟩
  case run =>
    simp only [k0_part109_eq_skeleton]; unfold k0_part109_skel
    simp only [k0_part108_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton]
    iintro ⟨H1, H6, H7, H8, H9, Hk⟩
    sl_exec
    sl_step
    iapply Hk
    isplitl [H1]; · iexact H1
    isplitl [H6]; · iexact H6
    isplitl [H7]; · iexact H7
    isplitl [H8]; · iexact H8
    iexact H9

end Cert.KernelIdeal.Hand

end
-- ==== Proof.HeadEq.lean ====
module

public import proofs.«01_k».proof.Proof.Gen.KernelIdeal.Frame
public import proofs.«01_k».proof.Proof.Gen.KernelIdeal.Skeleton
public import Idealize.ShloMosaic.Lib.Pipeline.ValueKit
public import proofs.«01_k».proof.Proof.HeadForm
public import proofs.«01_k».proof.Proof.HeadRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (arg1 : Memref sig .tc .vmem S8x8192 .bf16) (harg1 : arg1.IsWhole) (x0 : Vec F S8x8192 .bf16)

/-- Reading the whole staged `x` gives `x`. -/
theorem read_x : View.readAt (Elt F) arg1.view (Rect.unit (s := S8x8192) ![0, 0] S8x8192.size inb_S8x8192_S8x8192_0_0).toLoadRect (harg1.unread x0) = x0 := by
  rw [View.readAt_eq_ld, harg1.read_unread]; exact View.ld_unit_lit inb_S8x8192_S8x8192_0_0 x0 (by decide)

/-- The stacked `x` of the run. -/
theorem v2679_eq : headRun.sl.v2679 arg1 harg1 x0 = xsOf x0 := by
  have h : headRun.sl.v2679 arg1 harg1 x0 = xsOf (View.readAt (Elt F) arg1.view (Rect.unit (s := S8x8192) ![0, 0] S8x8192.size inb_S8x8192_S8x8192_0_0).toLoadRect (harg1.unread x0)) := rfl
  rw [h, read_x]

/-- The group maxima after four of the five steps. -/
theorem v2713_eq : headRun.sl.v2713 arg1 harg1 x0 = maxStep 8#32 120#32 (maxStep 4#32 124#32 (maxStep 2#32 126#32 (maxStep 1#32 127#32 (absf (xsOf x0))))) := by
  rw [← v2679_eq arg1 harg1 x0]; rfl

/-- The ratio of the run. -/
theorem v2723_eq : headRun.sl.v2723 arg1 harg1 x0 = ratioOf (xsOf x0) := by
  unfold headRun.sl.v2723; rw [v2713_eq]; rfl

theorem field_eq (L : IVec S512x128 32) (v : FVec F S512x128 .f32) :
    k0_pay63 (k0_pay60 L v) (k0_pay61 L v) (k0_pay62 L v) = fieldOf (k0_pay60 L v) := rfl

theorem field_run : k0_pay63 (headRun.sl.v2723 arg1 harg1 x0) (headRun.sl.v2751 arg1 harg1 x0) (headRun.sl.v2756 arg1 harg1 x0)
    = fieldOf (ratioOf (xsOf x0)) := by
  rw [← v2723_eq arg1 harg1 x0]; exact field_eq _ _

/-- The scaled array of the run. -/
theorem v2816_eq : headRun.sl.v2816 arg1 harg1 x0 = scaledOf (xsOf x0) := by
  unfold headRun.sl.v2816 headRun.sl.v2798 headRun.sl.v2800 k0_pay67 k0_pay66 k0_pay64 k0_pay65
  rw [field_run, v2679_eq]; rfl

/-- The powers of two of the run. -/
theorem v2821_eq : headRun.sl.v2821 arg1 harg1 x0 = sxOf (xsOf x0) := by
  unfold headRun.sl.v2821 headRun.sl.v2798 headRun.sl.v2800 k0_pay68 k0_pay66 k0_pay64 k0_pay65
  rw [field_run]; rfl

/-- The stores into the scale scratch. -/
theorem head9 (c : Dev nD) (i : grid0.Coords) (arg1 : Memref sig .tc .vmem S8x8192 .bf16) (harg1 : arg1.IsWhole) (arg2 : Memref sig .tc .vmem S256x8192 .fp8e4m3) (harg2 : arg2.IsWhole) (arg3 : Memref sig .tc .vmem S256x256 .i8) (harg3 : arg3.IsWhole) (arg4 : Memref sig .tc .vmem S1x256 .f32) (harg4 : arg4.IsWhole) (arg5 : Memref sig .tc .vmem S8x256 .bf16) (harg5 : arg5.IsWhole) (arg6 : Memref sig .tc .vmem S8x8192 .fp8e4m3) (harg6 : arg6.IsWhole) (arg7 : Memref sig .tc .vmem S8x256 .i8) (harg7 : arg7.IsWhole) (arg8 : Memref sig .tc .vmem S64x32x128 .fp8e4m3) (harg8 : arg8.IsWhole) (arg9 : Memref sig .tc .vmem S256x8x128 .f32) (harg9 : arg9.IsWhole) (arg10 : Memref sig .tc .vmem S256x256 .f32) (harg10 : arg10.IsWhole) (x0 : Vec F S8x8192 .bf16) :
    (headRun (F := F) c i arg1 harg1 arg2 harg2 arg3 harg3 arg4 harg4 arg5 harg5 arg6 harg6 arg7 harg7 arg8 harg8 arg9 harg9 arg10 harg10 x0).2.2.2.val = sxPieces (sxOf (xsOf x0)) 256 (by omega) := by
  rw [← v2821_eq arg1 harg1 x0]; rfl

/-- The stores into the left operand's scratch. -/
theorem head8 (c : Dev nD) (i : grid0.Coords) (arg1 : Memref sig .tc .vmem S8x8192 .bf16) (harg1 : arg1.IsWhole) (arg2 : Memref sig .tc .vmem S256x8192 .fp8e4m3) (harg2 : arg2.IsWhole) (arg3 : Memref sig .tc .vmem S256x256 .i8) (harg3 : arg3.IsWhole) (arg4 : Memref sig .tc .vmem S1x256 .f32) (harg4 : arg4.IsWhole) (arg5 : Memref sig .tc .vmem S8x256 .bf16) (harg5 : arg5.IsWhole) (arg6 : Memref sig .tc .vmem S8x8192 .fp8e4m3) (harg6 : arg6.IsWhole) (arg7 : Memref sig .tc .vmem S8x256 .i8) (harg7 : arg7.IsWhole) (arg8 : Memref sig .tc .vmem S64x32x128 .fp8e4m3) (harg8 : arg8.IsWhole) (arg9 : Memref sig .tc .vmem S256x8x128 .f32) (harg9 : arg9.IsWhole) (arg10 : Memref sig .tc .vmem S256x256 .f32) (harg10 : arg10.IsWhole) (x0 : Vec F S8x8192 .bf16) :
    (headRun (F := F) c i arg1 harg1 arg2 harg2 arg3 harg3 arg4 harg4 arg5 harg5 arg6 harg6 arg7 harg7 arg8 harg8 arg9 harg9 arg10 harg10 x0).2.2.1 = lhsPieces (scaledOf (xsOf x0)) 64 (by omega) := by
  rw [← v2816_eq arg1 harg1 x0]; rfl

/-- The one store into the code window. -/
theorem head6 (c : Dev nD) (i : grid0.Coords) (arg1 : Memref sig .tc .vmem S8x8192 .bf16) (harg1 : arg1.IsWhole) (arg2 : Memref sig .tc .vmem S256x8192 .fp8e4m3) (harg2 : arg2.IsWhole) (arg3 : Memref sig .tc .vmem S256x256 .i8) (harg3 : arg3.IsWhole) (arg4 : Memref sig .tc .vmem S1x256 .f32) (harg4 : arg4.IsWhole) (arg5 : Memref sig .tc .vmem S8x256 .bf16) (harg5 : arg5.IsWhole) (arg6 : Memref sig .tc .vmem S8x8192 .fp8e4m3) (harg6 : arg6.IsWhole) (arg7 : Memref sig .tc .vmem S8x256 .i8) (harg7 : arg7.IsWhole) (arg8 : Memref sig .tc .vmem S64x32x128 .fp8e4m3) (harg8 : arg8.IsWhole) (arg9 : Memref sig .tc .vmem S256x8x128 .f32) (harg9 : arg9.IsWhole) (arg10 : Memref sig .tc .vmem S256x256 .f32) (harg10 : arg10.IsWhole) (x0 : Vec F S8x8192 .bf16) :
    (headRun (F := F) c i arg1 harg1 arg2 harg2 arg3 harg3 arg4 harg4 arg5 harg5 arg6 harg6 arg7 harg7 arg8 harg8 arg9 harg9 arg10 harg10 x0).1 = [⟨Rect.unit (s := S8x8192) ![0, 0] S8x8192.size inb_S8x8192_S8x8192_0_0, codesOf (scaledOf (xsOf x0))⟩] := by
  rw [← v2816_eq arg1 harg1 x0]; rfl

/-- The one store into the scale window. -/
theorem head7 (c : Dev nD) (i : grid0.Coords) (arg1 : Memref sig .tc .vmem S8x8192 .bf16) (harg1 : arg1.IsWhole) (arg2 : Memref sig .tc .vmem S256x8192 .fp8e4m3) (harg2 : arg2.IsWhole) (arg3 : Memref sig .tc .vmem S256x256 .i8) (harg3 : arg3.IsWhole) (arg4 : Memref sig .tc .vmem S1x256 .f32) (harg4 : arg4.IsWhole) (arg5 : Memref sig .tc .vmem S8x256 .bf16) (harg5 : arg5.IsWhole) (arg6 : Memref sig .tc .vmem S8x8192 .fp8e4m3) (harg6 : arg6.IsWhole) (arg7 : Memref sig .tc .vmem S8x256 .i8) (harg7 : arg7.IsWhole) (arg8 : Memref sig .tc .vmem S64x32x128 .fp8e4m3) (harg8 : arg8.IsWhole) (arg9 : Memref sig .tc .vmem S256x8x128 .f32) (harg9 : arg9.IsWhole) (arg10 : Memref sig .tc .vmem S256x256 .f32) (harg10 : arg10.IsWhole) (x0 : Vec F S8x8192 .bf16) :
    (headRun (F := F) c i arg1 harg1 arg2 harg2 arg3 harg3 arg4 harg4 arg5 harg5 arg6 harg6 arg7 harg7 arg8 harg8 arg9 harg9 arg10 harg10 x0).2.1 = [⟨Rect.unit (s := S8x256) ![0, 0] S8x256.size inb_S8x256_S8x256_0_0, scalesOf (sxOf (xsOf x0))⟩] := by
  rw [← v2821_eq arg1 harg1 x0]; rfl

end Cert.KernelIdeal.Hand

end
-- ==== Proof.BodyForm.lean ====
module

public import Idealize.ShloMosaic.Lib.Pipeline.ValueKit
public import proofs.«01_k».proof.Proof.HeadForm

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! What the body computes into the output block from the two scratch arrays and its blocks of the weights, written once
for every column tile and every group. -/

theorem inb_tile (c : Fin 32) : ∀ a, (![0, 256 * c.val] : Fin 2 → Nat) a + S256x256.size a ≤ S256x8192.size a
  | 0 => by show 0 + 256 ≤ 256; omega
  | 1 => by show 256 * c.val + 256 ≤ 8192; omega

theorem inb_group (g : Fin 256) : ∀ a, (![g.val, 0] : Fin 2 → Nat) a + S1x256.size a ≤ S256x256.size a
  | 0 => by show g.val + 1 ≤ 256; omega
  | 1 => by show 0 + 256 ≤ 256; omega

/-- Rows `8 p … 8 p + 7` of a tile's product lie inside it. -/
theorem slices_acc (p : Fin 8) : S64x256.Slices ![8 * p.val, 0] S8x256 :=
  ⟨rfl, fun a => match a with | 0 => by show 8 * p.val + 8 ≤ 64; omega | 1 => by show 0 + 256 ≤ 256; omega⟩

/-- Row block `j` of the left operand's scratch. -/
abbrev rect8 (j : Fin 64) : Rect S64x32x128 := Rect.unit (s := S64x32x128) ![j.val, 0, 0] S1x32x128.size (inb_row64 j)
/-- Group `g`'s row of the scale scratch. -/
abbrev rect9 (g : Fin 256) : Rect S256x8x128 := Rect.unit (s := S256x8x128) ![g.val, 0, 0] S1x8x128.size (inb_row256 g)
/-- Column tile `c` of the weight block. -/
abbrev rect2 (c : Fin 32) : Rect S256x8192 := Rect.unit (s := S256x8192) ![0, 256 * c.val] S256x256.size (inb_tile c)
/-- Group `g`'s row of the transposed weight scales. -/
abbrev rect10 (g : Fin 256) : Rect S256x256 := Rect.unit (s := S256x256) ![g.val, 0] S1x256.size (inb_group g)

/-- One group's contribution: its eight rows of the tile's product `A`, times its row scales `r` and column scales `t`. -/
def termOf (A : FVec F S64x256 .f32) (p : Fin 8) (r : Vec F S1x8x128 .f32) (t : Vec F S1x256 .f32) : FVec F S8x256 .f32 :=
  mulf (mulf (extractStridedSlice S8x256 ![8 * p.val, 0] A (slices_acc p))
    (concatenate S8x256 1 [⟨S8x128, shapeCast S8x128 r shapeCasts_S1x8x128_S8x128⟩, ⟨S8x128, shapeCast S8x128 r shapeCasts_S1x8x128_S8x128⟩]
      concatenates_S8x128_S8x128_S8x256_d1)) (broadcastTo S8x256 t broadcasts_S1x256_S8x256)

/-- The sum of the first `n` groups' contributions, added one at a time from zero: group `g` takes rows `g % 8` of the
    product of tile `g / 8`, whose left operand is row blocks `2 (g / 8)` and `2 (g / 8) + 1`. -/
def chainOf (a : Fin 64 → Vec F S1x32x128 .fp8e4m3) (w : Fin 32 → Vec F S256x256 .fp8e4m3) (r : Fin 256 → Vec F S1x8x128 .f32)
    (t : Fin 256 → Vec F S1x256 .f32) : (n : Nat) → n ≤ 256 → FVec F S8x256 .f32
  | 0, _ => broadcast S8x256 (Scalar.ofBits .f32 0x00000000#32)
  | n + 1, h => addf (chainOf a w r t n (Nat.le_of_succ_le h))
      (termOf (k0_pay904 (a ⟨2 * (n / 8), by omega⟩) (a ⟨2 * (n / 8) + 1, by omega⟩) (w ⟨n / 8, by omega⟩)) ⟨n % 8, Nat.mod_lt _ (by omega)⟩
        (r ⟨n, h⟩) (t ⟨n, h⟩))

/-- The output block from the scratch arrays' contents `d8`, `d9` and the blocks of the weights, weight scales and bias. -/
def yOf (d8 : Vec F S64x32x128 .fp8e4m3) (d9 : Vec F S256x8x128 .f32) (x1 : Vec F S256x8192 .fp8e4m3) (x2 : Vec F S256x256 .i8)
    (x3 : Vec F S1x256 .f32) : FVec F S8x256 .bf16 :=
  k0_pay1 (chainOf (fun j => View.ld d8 (rect8 j)) (fun c => View.ld x1 (rect2 c)) (fun g => View.ld d9 (rect9 g))
    (fun g => View.ld (k0_pay902 x2) (rect10 g)) 256 (by omega)) (k0_pay1059 x3)

end Cert.KernelIdeal.Hand

end
-- ==== Proof.BodyRun.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's region at grid point 0: the quantiser where the point is the first, nothing elsewhere. -/
def quantiseAt (i : grid0.Coords) (arg1 : Memref sig .tc .vmem S8x8192 .bf16) (harg1 : arg1.IsWhole) (arg2 : Memref sig .tc .vmem S256x8192 .fp8e4m3) (harg2 : arg2.IsWhole) (arg3 : Memref sig .tc .vmem S256x256 .i8) (harg3 : arg3.IsWhole) (arg4 : Memref sig .tc .vmem S1x256 .f32) (harg4 : arg4.IsWhole) (arg5 : Memref sig .tc .vmem S8x256 .bf16) (harg5 : arg5.IsWhole) (arg6 : Memref sig .tc .vmem S8x8192 .fp8e4m3) (harg6 : arg6.IsWhole) (arg7 : Memref sig .tc .vmem S8x256 .i8) (harg7 : arg7.IsWhole) (arg8 : Memref sig .tc .vmem S64x32x128 .fp8e4m3) (harg8 : arg8.IsWhole) (arg9 : Memref sig .tc .vmem S256x8x128 .f32) (harg9 : arg9.IsWhole) (arg10 : Memref sig .tc .vmem S256x256 .f32) (harg10 : arg10.IsWhole) : Prog (TpuEff nD τ sig (Elt F) Λ₀ .tc) PUnit :=
  if k0_h1 : k0_cond1 i = 1#1 then do
    k0_part109 i arg1 harg1 arg2 harg2 arg3 harg3 arg4 harg4 arg5 harg5 arg6 harg6 arg7 harg7 arg8 harg8 arg9 harg9 arg10 harg10
    pure ⟨⟩
  else do
    pure ⟨⟩

/-- `k0_part110` with its conditional region replaced by a call of `quantiseAt`. -/
def part110' (i : grid0.Coords) (arg1 : Memref sig .tc .vmem S8x8192 .bf16) (harg1 : arg1.IsWhole) (arg2 : Memref sig .tc .vmem S256x8192 .fp8e4m3) (harg2 : arg2.IsWhole) (arg3 : Memref sig .tc .vmem S256x256 .i8) (harg3 : arg3.IsWhole) (arg4 : Memref sig .tc .vmem S1x256 .f32) (harg4 : arg4.IsWhole) (arg5 : Memref sig .tc .vmem S8x256 .bf16) (harg5 : arg5.IsWhole) (arg6 : Memref sig .tc .vmem S8x8192 .fp8e4m3) (harg6 : arg6.IsWhole) (arg7 : Memref sig .tc .vmem S8x256 .i8) (harg7 : arg7.IsWhole) (arg8 : Memref sig .tc .vmem S64x32x128 .fp8e4m3) (harg8 : arg8.IsWhole) (arg9 : Memref sig .tc .vmem S256x8x128 .f32) (harg9 : arg9.IsWhole) (arg10 : Memref sig .tc .vmem S256x256 .f32) (harg10 : arg10.IsWhole) :
    Prog (TpuEff nD τ sig (Elt F) Λ₀ .tc) (Σ' (v12 : FVec F S32x128 .fp8e4m3) (v22 : FVec F S64x256 .f32), FVec F S8x256 .f32) := do
  quantiseAt i arg1 harg1 arg2 harg2 arg3 harg3 arg4 harg4 arg5 harg5 arg6 harg6 arg7 harg7 arg8 harg8 arg9 harg9 arg10 harg10
  let v3 : Vec F S256x256 .i8 ← Prog.lift (.load arg3 (Rect.unit (s := S256x256) ![0, 0] S256x256.size inb_S256x256_S256x256_0_0).toLoadRect (View.loadsAt_vmem h_S256x256))
  let v9 : Vec F S256x256 .f32 ← Prog.lift (.load arg10 (Rect.unit (s := S256x256) ![0, 0] S256x256.size inb_S256x256_S256x256_0_0).toLoadRect (View.loadsAt_vmem h_S256x256))
  Prog.lift (.store arg10 (Rect.unit (s := S256x256) ![0, 0] S256x256.size inb_S256x256_S256x256_0_0) (k0_pay902 v3) Finset.univ (View.stores_vmem_bits_univ h_S256x256 rfl) (.inl rfl))
  let v14 : Vec F S1x32x128 .fp8e4m3 ← Prog.lift (.load arg8 (Rect.unit (s := S64x32x128) ![0, 0, 0] S1x32x128.size inb_S64x32x128_S1x32x128_0_0_0).toLoadRect (View.loadsAt_vmem h_S1x32x128))
  let v17 : Vec F S1x32x128 .fp8e4m3 ← Prog.lift (.load arg8 (Rect.unit (s := S64x32x128) ![1, 0, 0] S1x32x128.size inb_S64x32x128_S1x32x128_1_0_0).toLoadRect (View.loadsAt_vmem h_S1x32x128))
  let v21 : Vec F S256x256 .fp8e4m3 ← Prog.lift (.load arg2 (Rect.unit (s := S256x8192) ![0, 0] S256x256.size inb_S256x8192_S256x256_0_0).toLoadRect (View.loadsAt_vmem h_S256x256))
  let v23 : Vec F S1x8x128 .f32 ← Prog.lift (.load arg9 (Rect.unit (s := S256x8x128) ![0, 0, 0] S1x8x128.size inb_S256x8x128_S1x8x128_0_0_0).toLoadRect (View.loadsAt_vmem h_S1x8x128))
  let v28 : Vec F S1x256 .f32 ← Prog.lift (.load arg10 (Rect.unit (s := S256x256) ![0, 0] S1x256.size inb_S256x256_S1x256_0_0).toLoadRect (View.loadsAt_vmem h_S1x256))
  pure ⟨k0_pay903 (F := F), k0_pay904 v14 v17 v21, k0_pay905 v14 v17 v21 v23 v28⟩

/-- `k0_part110` is `part110'`: in each case of the condition the two are one sequence of operations. -/
theorem part110_eq : k0_part110 (F := F) = part110' (F := F) := by
  rw [k0_part110_eq_skeleton]
  funext i arg1 harg1 arg2 harg2 arg3 harg3 arg4 harg4 arg5 harg5 arg6 harg6 arg7 harg7 arg8 harg8 arg9 harg9 arg10 harg10
  unfold k0_part110_skel part110' quantiseAt
  by_cases h : k0_cond1 i = 1#1
  · simp only [dif_pos h, Prog.bind_assoc]; rfl
  · simp only [dif_neg h]; rfl

set_option maxHeartbeats 8000000 in
set_option sl_exec.resultNames true in
/-- The whole body run once, at any grid point, given what its region at point 0 does (`hq`): if that region leaves
    the two scratch arrays at `d8` and `d9`, the body ends, the output window is left at the one store that the run
    finds, and everything else is as the region left it. -/
def bodyRun (c : Dev nD) (i : grid0.Coords) (arg1 : Memref sig .tc .vmem S8x8192 .bf16) (harg1 : arg1.IsWhole) (arg2 : Memref sig .tc .vmem S256x8192 .fp8e4m3) (harg2 : arg2.IsWhole) (arg3 : Memref sig .tc .vmem S256x256 .i8) (harg3 : arg3.IsWhole) (arg4 : Memref sig .tc .vmem S1x256 .f32) (harg4 : arg4.IsWhole) (arg5 : Memref sig .tc .vmem S8x256 .bf16) (harg5 : arg5.IsWhole) (arg6 : Memref sig .tc .vmem S8x8192 .fp8e4m3) (harg6 : arg6.IsWhole) (arg7 : Memref sig .tc .vmem S8x256 .i8) (harg7 : arg7.IsWhole) (arg8 : Memref sig .tc .vmem S64x32x128 .fp8e4m3) (harg8 : arg8.IsWhole) (arg9 : Memref sig .tc .vmem S256x8x128 .f32) (harg9 : arg9.IsWhole) (arg10 : Memref sig .tc .vmem S256x256 .f32) (harg10 : arg10.IsWhole)
    (x1 : Vec F S256x8192 .fp8e4m3) (x2 : Vec F S256x256 .i8) (x3 : Vec F S1x256 .f32)
    (d8 : Vec F S64x32x128 .fp8e4m3) (d9 : Vec F S256x8x128 .f32) :
    Σ' (L5 : List (View.Piece (Elt F) S8x256 .bf16)), { L10 : List (View.Piece (Elt F) S256x256 .f32) //
      ∀ (P Q : sProp 𝕄) (hq : P ⊢ wp frame (wpE (defs₀ (F := F)) Variants.none c none) Set.univ (quantiseAt i arg1 harg1 arg2 harg2 arg3 harg3 arg4 harg4 arg5 harg5 arg6 harg6 arg7 harg7 arg8 harg8 arg9 harg9 arg10 harg10)
          (fun _ => iprop((arg8.view.loc (c : Thread nD τ) ↦[arg8.view.set]{fullShare} harg8.unread d8)
            ∗ (arg9.view.loc (c : Thread nD τ) ↦[arg9.view.set]{fullShare} harg9.unread d9) ∗ Q)))
        (f5 : arg5.view.ty.Contents (Elt F)) (f10 : arg10.view.ty.Contents (Elt F)) (K : PUnit → sProp 𝕄),
        iprop((arg2.view.loc (c : Thread nD τ) ↦[arg2.view.set]{fullShare} harg2.unread x1)
            ∗ (arg3.view.loc (c : Thread nD τ) ↦[arg3.view.set]{fullShare} harg3.unread x2)
            ∗ (arg4.view.loc (c : Thread nD τ) ↦[arg4.view.set]{fullShare} harg4.unread x3)
            ∗ (arg5.view.loc (c : Thread nD τ) ↦[arg5.view.set]{fullShare} f5)
            ∗ (arg10.view.loc (c : Thread nD τ) ↦[arg10.view.set]{fullShare} f10)
            ∗ P
            ∗ (iprop((arg2.view.loc (c : Thread nD τ) ↦[arg2.view.set]{fullShare} harg2.unread x1)
                ∗ (arg3.view.loc (c : Thread nD τ) ↦[arg3.view.set]{fullShare} harg3.unread x2)
                ∗ (arg4.view.loc (c : Thread nD τ) ↦[arg4.view.set]{fullShare} harg4.unread x3)
                ∗ (arg5.view.loc (c : Thread nD τ) ↦[arg5.view.set]{fullShare} arg5.view.writes (Elt F) f5 L5)
                ∗ (arg10.view.loc (c : Thread nD τ) ↦[arg10.view.set]{fullShare} arg10.view.writes (Elt F) f10 L10)
                ∗ (arg8.view.loc (c : Thread nD τ) ↦[arg8.view.set]{fullShare} harg8.unread d8)
                ∗ (arg9.view.loc (c : Thread nD τ) ↦[arg9.view.set]{fullShare} harg9.unread d9) ∗ Q) -∗ K ⟨⟩))
          ⊢ wp frame (wpE (defs₀ (F := F)) Variants.none c none) Set.univ (cc0__kernel i arg1 harg1 arg2 harg2 arg3 harg3 arg4 harg4 arg5 harg5 arg6 harg6 arg7 harg7 arg8 harg8 arg9 harg9 arg10 harg10) K } := by
  refine ⟨?_, ?_, fun P Q hq f5 f10 K => ?run⟩
  case run =>
    simp only [cc0__kernel_eq_skeleton]; unfold cc0__kernel_skel
    simp only [k0_part179_eq_skeleton]; unfold k0_part179_skel
    simp only [part110_eq]; unfold part110'
    iintro ⟨H2, H3, H4, H5, H10, HP, Hk⟩
    sl_exec
    sl_step
    iapply Hk
    isplitl [H2]; · iexact H2
    isplitl [H3]; · iexact H3
    isplitl [H4]; · iexact H4
    isplitl [H5]; · iexact H5
    isplitl [H10]; · iexact H10
    isplitl [HquantiseAt_0]; · iexact HquantiseAt_0
    isplitl [HquantiseAt_1]; · iexact HquantiseAt_1
    iexact HquantiseAt_2

end Cert.KernelIdeal.Hand

end
-- ==== Proof.BodyEq.lean ====
module

public import proofs.«01_k».proof.Proof.Gen.KernelIdeal.Frame
public import proofs.«01_k».proof.Proof.Gen.KernelIdeal.Skeleton
public import Idealize.ShloMosaic.Lib.Pipeline.ValueKit
public import proofs.«01_k».proof.Proof.BodyForm
public import proofs.«01_k».proof.Proof.BodyRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one store into the output window, with the reads of the run spelt out. -/
theorem body5_raw (c : Dev nD) (i : grid0.Coords) (arg1 : Memref sig .tc .vmem S8x8192 .bf16) (harg1 : arg1.IsWhole) (arg2 : Memref sig .tc .vmem S256x8192 .fp8e4m3) (harg2 : arg2.IsWhole) (arg3 : Memref sig .tc .vmem S256x256 .i8) (harg3 : arg3.IsWhole) (arg4 : Memref sig .tc .vmem S1x256 .f32) (harg4 : arg4.IsWhole) (arg5 : Memref sig .tc .vmem S8x256 .bf16) (harg5 : arg5.IsWhole) (arg6 : Memref sig .tc .vmem S8x8192 .fp8e4m3) (harg6 : arg6.IsWhole) (arg7 : Memref sig .tc .vmem S8x256 .i8) (harg7 : arg7.IsWhole) (arg8 : Memref sig .tc .vmem S64x32x128 .fp8e4m3) (harg8 : arg8.IsWhole) (arg9 : Memref sig .tc .vmem S256x8x128 .f32) (harg9 : arg9.IsWhole) (arg10 : Memref sig .tc .vmem S256x256 .f32) (harg10 : arg10.IsWhole) (x1 : Vec F S256x8192 .fp8e4m3) (x2 : Vec F S256x256 .i8) (x3 : Vec F S1x256 .f32)
    (d8 : Vec F S64x32x128 .fp8e4m3) (d9 : Vec F S256x8x128 .f32) :
    (bodyRun (F := F) c i arg1 harg1 arg2 harg2 arg3 harg3 arg4 harg4 arg5 harg5 arg6 harg6 arg7 harg7 arg8 harg8 arg9 harg9 arg10 harg10 x1 x2 x3 d8 d9).1 = [⟨Rect.unit (s := S8x256) ![0, 0] S8x256.size inb_S8x256_S8x256_0_0,
      k0_pay1 (chainOf (fun j => View.readAt (Elt F) arg8.view (rect8 j).toLoadRect (harg8.unread d8))
        (fun c => View.readAt (Elt F) arg2.view (rect2 c).toLoadRect (harg2.unread x1))
        (fun g => View.readAt (Elt F) arg9.view (rect9 g).toLoadRect (harg9.unread d9))
        (fun g => arg10.view.readCov [⟨Rect.unit (s := S256x256) ![0, 0] S256x256.size inb_S256x256_S256x256_0_0,
            k0_pay902 (View.readAt (Elt F) arg3.view (Rect.unit (s := S256x256) ![0, 0] S256x256.size inb_S256x256_S256x256_0_0).toLoadRect (harg3.unread x2))⟩]
          (rect10 g).toLoadRect) 256 (by omega))
        (k0_pay1059 (View.readAt (Elt F) arg4.view (Rect.unit (s := S1x256) ![0, 0] S1x256.size inb_S1x256_S1x256_0_0).toLoadRect (harg4.unread x3)))⟩] := rfl

/-- A row read from the scratch of the transposed weight scales, after the one store that fills it. -/
theorem read_t (arg10 : Memref sig .tc .vmem S256x256 .f32) (T : FVec F S256x256 .f32) (g : Fin 256) :
    arg10.view.readCov (Val := Elt F) [⟨Rect.unit (s := S256x256) ![0, 0] S256x256.size inb_S256x256_S256x256_0_0, T⟩]
      (rect10 g).toLoadRect = View.ld T (rect10 g) := by
  rw [View.readCov_eq_canon', View.canon_unit_zero (by decide)]

/-- The one store into the output window: the block that the scratch arrays and the weights' blocks give. -/
theorem body5 (c : Dev nD) (i : grid0.Coords) (arg1 : Memref sig .tc .vmem S8x8192 .bf16) (harg1 : arg1.IsWhole) (arg2 : Memref sig .tc .vmem S256x8192 .fp8e4m3) (harg2 : arg2.IsWhole) (arg3 : Memref sig .tc .vmem S256x256 .i8) (harg3 : arg3.IsWhole) (arg4 : Memref sig .tc .vmem S1x256 .f32) (harg4 : arg4.IsWhole) (arg5 : Memref sig .tc .vmem S8x256 .bf16) (harg5 : arg5.IsWhole) (arg6 : Memref sig .tc .vmem S8x8192 .fp8e4m3) (harg6 : arg6.IsWhole) (arg7 : Memref sig .tc .vmem S8x256 .i8) (harg7 : arg7.IsWhole) (arg8 : Memref sig .tc .vmem S64x32x128 .fp8e4m3) (harg8 : arg8.IsWhole) (arg9 : Memref sig .tc .vmem S256x8x128 .f32) (harg9 : arg9.IsWhole) (arg10 : Memref sig .tc .vmem S256x256 .f32) (harg10 : arg10.IsWhole) (x1 : Vec F S256x8192 .fp8e4m3) (x2 : Vec F S256x256 .i8) (x3 : Vec F S1x256 .f32)
    (d8 : Vec F S64x32x128 .fp8e4m3) (d9 : Vec F S256x8x128 .f32) :
    (bodyRun (F := F) c i arg1 harg1 arg2 harg2 arg3 harg3 arg4 harg4 arg5 harg5 arg6 harg6 arg7 harg7 arg8 harg8 arg9 harg9 arg10 harg10 x1 x2 x3 d8 d9).1 = [⟨Rect.unit (s := S8x256) ![0, 0] S8x256.size inb_S8x256_S8x256_0_0, yOf d8 d9 x1 x2 x3⟩] := by
  have e3 : View.readAt (Elt F) arg3.view (Rect.unit (s := S256x256) ![0, 0] S256x256.size inb_S256x256_S256x256_0_0).toLoadRect (harg3.unread x2) = x2 := by
    rw [View.readAt_eq_ld, harg3.read_unread]; exact View.ld_unit_lit inb_S256x256_S256x256_0_0 x2 (by decide)
  have e4 : View.readAt (Elt F) arg4.view (Rect.unit (s := S1x256) ![0, 0] S1x256.size inb_S1x256_S1x256_0_0).toLoadRect (harg4.unread x3) = x3 := by
    rw [View.readAt_eq_ld, harg4.read_unread]; exact View.ld_unit_lit inb_S1x256_S1x256_0_0 x3 (by decide)
  have et : (fun g => arg10.view.readCov (Val := Elt F) [⟨Rect.unit (s := S256x256) ![0, 0] S256x256.size inb_S256x256_S256x256_0_0, k0_pay902 x2⟩]
      (rect10 g).toLoadRect) = fun g => View.ld (k0_pay902 x2) (rect10 g) := funext fun g => read_t arg10 (k0_pay902 x2) g
  rw [body5_raw, e3, e4, et]
  simp only [View.readAt_eq_ld, harg8.read_unread, harg2.read_unread, harg9.read_unread]
  rfl

end Cert.KernelIdeal.Hand

end
-- ==== Proof.Scratch.lean ====
module

public import proofs.«01_k».proof.Proof.Gen.KernelIdeal.Frame
public import proofs.«01_k».proof.Proof.Gen.KernelIdeal.Skeleton
public import proofs.«01_k».proof.Proof.HeadEq
public import proofs.«01_k».proof.Proof.BodyEq
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The left operand's scratch after the quantiser: row block `j` holds `lhsRow S j`. -/
def lhsAll (S : FVec F S512x128 .f32) : Vec F S64x32x128 .fp8e4m3 := fun y =>
  lhsRow S (y 0) (ix3 0 (y 1) (y 2))

/-- The scale scratch after the quantiser: row `g` holds group `g`'s power of two for each row of `x`. -/
def sxAll (S : FVec F S512x128 .f32) : Vec F S256x8x128 .f32 := fun y => sxRow S (y 0) (ix2 (y 1) (y 2))

/-- Row block `j`'s store agrees with `lhsAll`. -/
theorem lhs_piece (S : FVec F S512x128 .f32) (j : Fin 64) (x : S1x32x128.Idx) : lhsRow S j x = lhsAll S ((rect8 j).emb x) := by
  have h0 : ((x 0 : Fin 1) : Nat) = 0 := by have : ((x 0 : Fin 1) : Nat) < 1 := (x 0 : Fin 1).isLt; omega
  have e0 : ((rect8 j).emb x 0 : Fin 64) = j := Fin.ext (show j.val + 1 * ((x 0 : Fin 1) : Nat) = j.val by omega)
  unfold lhsAll
  rw [e0]
  congr 1
  funext a
  match a with
  | 0 => exact Subsingleton.elim (α := Fin 1) _ _
  | 1 => exact Fin.ext (show ((x 1 : Fin 32) : Nat) = 0 + 1 * ((x 1 : Fin 32) : Nat) by omega)
  | 2 => exact Fin.ext (show ((x 2 : Fin 128) : Nat) = 0 + 1 * ((x 2 : Fin 128) : Nat) by omega)

theorem lhs_pieces (S : FVec F S512x128 .f32) : ∀ (n : Nat) (h : n ≤ 64), ∀ p ∈ lhsPieces S n h,
    ∀ x : p.1.shape.Idx, p.2 x = lhsAll S (p.1.emb x)
  | 0, _, p, hp => by simp [lhsPieces] at hp
  | n + 1, h, p, hp => by
    rcases List.mem_cons.mp hp with rfl | hp
    · exact lhs_piece S ⟨n, h⟩
    · exact lhs_pieces S n (Nat.le_of_succ_le h) p hp

theorem lhs_cover (S : FVec F S512x128 .f32) (y : S64x32x128.Idx) : ∀ (n : Nat) (h : n ≤ 64), (y 0 : Fin 64).val < n →
    ∃ p ∈ lhsPieces S n h, y ∈ p.1.set
  | 0, _, hy => absurd hy (Nat.not_lt_zero _)
  | n + 1, h, hy => by
    by_cases he : (y 0 : Fin 64).val = n
    · refine ⟨lhsPiece S ⟨n, h⟩, List.mem_cons_self .., ?_⟩
      refine (Rect.mem_set_unit (inb := inb_row64 ⟨n, h⟩)).mpr fun a => ?_
      match a with
      | 0 => exact ⟨by show n ≤ (y 0 : Fin 64).val; omega, by show (y 0 : Fin 64).val < n + 1; omega⟩
      | 1 => exact ⟨Nat.zero_le _, by have : ((y 1 : Fin 32) : Nat) < 32 := (y 1 : Fin 32).isLt; show (y 1 : Fin 32).val < 0 + 32; omega⟩
      | 2 => exact ⟨Nat.zero_le _, by have : ((y 2 : Fin 128) : Nat) < 128 := (y 2 : Fin 128).isLt; show (y 2 : Fin 128).val < 0 + 128; omega⟩
    · obtain ⟨p, hp, hm⟩ := lhs_cover S y n (Nat.le_of_succ_le h) (by omega)
      exact ⟨p, List.mem_cons_of_mem _ hp, hm⟩

/-- The 64 stores into the left operand's scratch leave `lhsAll`. -/
theorem canon_lhs (S : FVec F S512x128 .f32) : View.canon (lhsPieces S 64 (by omega)) = lhsAll S :=
  funext fun y => View.canon_apply_of_pieces (lhsAll S) _ (lhs_pieces S 64 _) y (lhs_cover S y 64 _ (y 0 : Fin 64).isLt)

/-- Row block `j` read back from the left operand's scratch. -/
theorem ld_lhs (S : FVec F S512x128 .f32) (j : Fin 64) : View.ld (lhsAll S) (rect8 j) = lhsRow S j :=
  funext fun x => (lhs_piece S j x).symm

/-- Group `g`'s store agrees with `sxAll`. -/
theorem sx_piece (S : FVec F S512x128 .f32) (g : Fin 256) (x : S1x8x128.Idx) :
    shapeCast S1x8x128 (sxRow S g) shapeCasts_S8x128_S1x8x128 x = sxAll S ((rect9 g).emb x) := by
  have h0 : ((x 0 : Fin 1) : Nat) = 0 := by have : ((x 0 : Fin 1) : Nat) < 1 := (x 0 : Fin 1).isLt; omega
  have e0 : ((rect9 g).emb x 0 : Fin 256) = g := Fin.ext (show g.val + 1 * ((x 0 : Fin 1) : Nat) = g.val by omega)
  refine (shapeCast_addUnit_apply ![8, 128] (sxRow S g) shapeCasts_S8x128_S1x8x128 x).trans ?_
  unfold sxAll
  rw [e0]
  congr 1
  funext a
  match a with
  | 0 => exact Fin.ext (show ((x 1 : Fin 8) : Nat) = 0 + 1 * ((x 1 : Fin 8) : Nat) by omega)
  | 1 => exact Fin.ext (show ((x 2 : Fin 128) : Nat) = 0 + 1 * ((x 2 : Fin 128) : Nat) by omega)

theorem sx_pieces (S : FVec F S512x128 .f32) : ∀ (n : Nat) (h : n ≤ 256), ∀ p ∈ sxPieces S n h,
    ∀ x : p.1.shape.Idx, p.2 x = sxAll S (p.1.emb x)
  | 0, _, p, hp => by simp [sxPieces] at hp
  | n + 1, h, p, hp => by
    rcases List.mem_cons.mp hp with rfl | hp
    · exact sx_piece S ⟨n, h⟩
    · exact sx_pieces S n (Nat.le_of_succ_le h) p hp

theorem sx_cover (S : FVec F S512x128 .f32) (y : S256x8x128.Idx) : ∀ (n : Nat) (h : n ≤ 256), (y 0 : Fin 256).val < n →
    ∃ p ∈ sxPieces S n h, y ∈ p.1.set
  | 0, _, hy => absurd hy (Nat.not_lt_zero _)
  | n + 1, h, hy => by
    by_cases he : (y 0 : Fin 256).val = n
    · refine ⟨sxPiece S ⟨n, h⟩, List.mem_cons_self .., ?_⟩
      refine (Rect.mem_set_unit (inb := inb_row256 ⟨n, h⟩)).mpr fun a => ?_
      match a with
      | 0 => exact ⟨by show n ≤ (y 0 : Fin 256).val; omega, by show (y 0 : Fin 256).val < n + 1; omega⟩
      | 1 => exact ⟨Nat.zero_le _, by have : ((y 1 : Fin 8) : Nat) < 8 := (y 1 : Fin 8).isLt; show (y 1 : Fin 8).val < 0 + 8; omega⟩
      | 2 => exact ⟨Nat.zero_le _, by have : ((y 2 : Fin 128) : Nat) < 128 := (y 2 : Fin 128).isLt; show (y 2 : Fin 128).val < 0 + 128; omega⟩
    · obtain ⟨p, hp, hm⟩ := sx_cover S y n (Nat.le_of_succ_le h) (by omega)
      exact ⟨p, List.mem_cons_of_mem _ hp, hm⟩

/-- The 256 stores into the scale scratch leave `sxAll`. -/
theorem canon_sx (S : FVec F S512x128 .f32) : View.canon (sxPieces S 256 (by omega)) = sxAll S :=
  funext fun y => View.canon_apply_of_pieces (sxAll S) _ (sx_pieces S 256 _) y (sx_cover S y 256 _ (y 0 : Fin 256).isLt)

/-- Group `g`'s row read back from the scale scratch. -/
theorem ld_sx (S : FVec F S512x128 .f32) (g : Fin 256) :
    View.ld (sxAll S) (rect9 g) = shapeCast S1x8x128 (sxRow S g) shapeCasts_S8x128_S1x8x128 :=
  funext fun x => (sx_piece S g x).symm

end Cert.KernelIdeal.Hand

end
-- ==== Proof.Step.lean ====
module

public import proofs.«01_k».proof.Proof.Gen.KernelIdeal.Frame
public import proofs.«01_k».proof.Proof.Gen.KernelIdeal.Skeleton
public import proofs.«01_k».proof.Proof.Scratch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- A buffer stored over whole, through the rectangle of its own extents, is read as what was stored. -/
theorem read_stored {S : Shape} {e : EltTy} (m : Memref sig .tc .vmem S e) {off : Fin S.rank → Nat} (h : off = fun _ => 0)
    (inb : ∀ a, off a + S.size a ≤ S.size a) (f : m.view.ty.Contents (Elt F)) (w : S.Idx → Elt F e) :
    m.view.read (Elt F) (m.view.writes (Elt F) f [⟨Rect.unit (s := S) off S.size inb, w⟩]) = w :=
  (View.read_writes_eq_canon m.view f [⟨Rect.unit (s := S) off S.size inb, w⟩]
    (fun y => ⟨_, List.mem_singleton_self _, View.mem_set_unit_zero h inb y⟩)).trans (View.canon_unit_zero (Val := Elt F) (S := S) h inb w)

/-- The left operand's scratch read after the 64 stores. -/
theorem read_lhs (m : Memref sig .tc .vmem S64x32x128 .fp8e4m3) (f : m.view.ty.Contents (Elt F)) (S : FVec F S512x128 .f32) :
    m.view.read (Elt F) (m.view.writes (Elt F) f (lhsPieces S 64 (by omega))) = lhsAll S := by
  rw [View.read_writes_eq_canon m.view f _ (fun y => lhs_cover S y 64 (by omega) (y 0 : Fin 64).isLt), canon_lhs]

/-- The scale scratch read after the 256 stores. -/
theorem read_sx (m : Memref sig .tc .vmem S256x8x128 .f32) (f : m.view.ty.Contents (Elt F)) (S : FVec F S512x128 .f32) :
    m.view.read (Elt F) (m.view.writes (Elt F) f (sxPieces S 256 (by omega))) = sxAll S := by
  rw [View.read_writes_eq_canon m.view f _ (fun y => sx_cover S y 256 (by omega) (y 0 : Fin 256).isLt), canon_sx]

/-- The quantiser's run with its lists of stores named. -/
theorem head_spec (c : Dev nD) (i : grid0.Coords) (arg1 : Memref sig .tc .vmem S8x8192 .bf16) (harg1 : arg1.IsWhole) (arg2 : Memref sig .tc .vmem S256x8192 .fp8e4m3) (harg2 : arg2.IsWhole) (arg3 : Memref sig .tc .vmem S256x256 .i8) (harg3 : arg3.IsWhole) (arg4 : Memref sig .tc .vmem S1x256 .f32) (harg4 : arg4.IsWhole) (arg5 : Memref sig .tc .vmem S8x256 .bf16) (harg5 : arg5.IsWhole) (arg6 : Memref sig .tc .vmem S8x8192 .fp8e4m3) (harg6 : arg6.IsWhole) (arg7 : Memref sig .tc .vmem S8x256 .i8) (harg7 : arg7.IsWhole) (arg8 : Memref sig .tc .vmem S64x32x128 .fp8e4m3) (harg8 : arg8.IsWhole) (arg9 : Memref sig .tc .vmem S256x8x128 .f32) (harg9 : arg9.IsWhole) (arg10 : Memref sig .tc .vmem S256x256 .f32) (harg10 : arg10.IsWhole) (x0 : Vec F S8x8192 .bf16)
    {L6 : List (View.Piece (Elt F) S8x8192 .fp8e4m3)} {L7 : List (View.Piece (Elt F) S8x256 .i8)}
    {L8 : List (View.Piece (Elt F) S64x32x128 .fp8e4m3)} {L9 : List (View.Piece (Elt F) S256x8x128 .f32)}
    (h6 : (headRun (F := F) c i arg1 harg1 arg2 harg2 arg3 harg3 arg4 harg4 arg5 harg5 arg6 harg6 arg7 harg7 arg8 harg8 arg9 harg9 arg10 harg10 x0).1 = L6) (h7 : (headRun (F := F) c i arg1 harg1 arg2 harg2 arg3 harg3 arg4 harg4 arg5 harg5 arg6 harg6 arg7 harg7 arg8 harg8 arg9 harg9 arg10 harg10 x0).2.1 = L7)
    (h8 : (headRun (F := F) c i arg1 harg1 arg2 harg2 arg3 harg3 arg4 harg4 arg5 harg5 arg6 harg6 arg7 harg7 arg8 harg8 arg9 harg9 arg10 harg10 x0).2.2.1 = L8) (h9 : (headRun (F := F) c i arg1 harg1 arg2 harg2 arg3 harg3 arg4 harg4 arg5 harg5 arg6 harg6 arg7 harg7 arg8 harg8 arg9 harg9 arg10 harg10 x0).2.2.2.val = L9)
    (f6 : arg6.view.ty.Contents (Elt F)) (f7 : arg7.view.ty.Contents (Elt F)) (f8 : arg8.view.ty.Contents (Elt F)) (f9 : arg9.view.ty.Contents (Elt F))
    {g6 g7 g8 g9} (e6 : arg6.view.writes (Elt F) f6 L6 = g6) (e7 : arg7.view.writes (Elt F) f7 L7 = g7)
    (e8 : arg8.view.writes (Elt F) f8 L8 = g8) (e9 : arg9.view.writes (Elt F) f9 L9 = g9) (K : PUnit → sProp 𝕄) :
    iprop((arg1.view.loc (c : Thread nD τ) ↦[arg1.view.set]{fullShare} harg1.unread x0) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
        ∗ (iprop((arg1.view.loc (c : Thread nD τ) ↦[arg1.view.set]{fullShare} harg1.unread x0) ∗ (arg6.view.loc (c : Thread nD τ) ↦[arg6.view.set]{fullShare} g6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9)) -∗ K ⟨⟩))
      ⊢ wp frame (wpE (defs₀ (F := F)) Variants.none c none) Set.univ (k0_part109 i arg1 harg1 arg2 harg2 arg3 harg3 arg4 harg4 arg5 harg5 arg6 harg6 arg7 harg7 arg8 harg8 arg9 harg9 arg10 harg10) K := by
  subst h6 h7 h8 h9 e6 e7 e8 e9
  exact (headRun c i arg1 harg1 arg2 harg2 arg3 harg3 arg4 harg4 arg5 harg5 arg6 harg6 arg7 harg7 arg8 harg8 arg9 harg9 arg10 harg10 x0).2.2.2.property Set.univ f6 f7 f8 f9 K

/-- At grid point 0 the body's region quantises: from a staged `x` it leaves the code and scale windows at the codes
    and scales of `x`, and the two scratch arrays at `lhsAll` and `sxAll`. -/
theorem quantise_first (c : Dev nD) (i : grid0.Coords) (arg1 : Memref sig .tc .vmem S8x8192 .bf16) (harg1 : arg1.IsWhole) (arg2 : Memref sig .tc .vmem S256x8192 .fp8e4m3) (harg2 : arg2.IsWhole) (arg3 : Memref sig .tc .vmem S256x256 .i8) (harg3 : arg3.IsWhole) (arg4 : Memref sig .tc .vmem S1x256 .f32) (harg4 : arg4.IsWhole) (arg5 : Memref sig .tc .vmem S8x256 .bf16) (harg5 : arg5.IsWhole) (arg6 : Memref sig .tc .vmem S8x8192 .fp8e4m3) (harg6 : arg6.IsWhole) (arg7 : Memref sig .tc .vmem S8x256 .i8) (harg7 : arg7.IsWhole) (arg8 : Memref sig .tc .vmem S64x32x128 .fp8e4m3) (harg8 : arg8.IsWhole) (arg9 : Memref sig .tc .vmem S256x8x128 .f32) (harg9 : arg9.IsWhole) (arg10 : Memref sig .tc .vmem S256x256 .f32) (harg10 : arg10.IsWhole) (hc : k0_cond1 i = 1#1) (x0 : Vec F S8x8192 .bf16)
    (f6 : arg6.view.ty.Contents (Elt F)) (f7 : arg7.view.ty.Contents (Elt F)) (f8 : arg8.view.ty.Contents (Elt F)) (f9 : arg9.view.ty.Contents (Elt F)) :
    (iprop((arg1.view.loc (c : Thread nD τ) ↦[arg1.view.set]{fullShare} harg1.unread x0) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄)
      ⊢ wp frame (wpE (defs₀ (F := F)) Variants.none c none) Set.univ (quantiseAt i arg1 harg1 arg2 harg2 arg3 harg3 arg4 harg4 arg5 harg5 arg6 harg6 arg7 harg7 arg8 harg8 arg9 harg9 arg10 harg10) (fun _ => iprop((arg8.view.loc (c : Thread nD τ) ↦[arg8.view.set]{fullShare} harg8.unread (lhsAll (scaledOf (xsOf x0)))) ∗ (arg9.view.loc (c : Thread nD τ) ↦[arg9.view.set]{fullShare} harg9.unread (sxAll (sxOf (xsOf x0))))
          ∗ (arg1.view.loc (c : Thread nD τ) ↦[arg1.view.set]{fullShare} harg1.unread x0) ∗ (arg6.view.loc (c : Thread nD τ) ↦[arg6.view.set]{fullShare} harg6.unread (codesOf (scaledOf (xsOf x0)))) ∗ (arg7.view.loc (c : Thread nD τ) ↦[arg7.view.set]{fullShare} harg7.unread (scalesOf (sxOf (xsOf x0)))))) := by
  have e : (quantiseAt i arg1 harg1 arg2 harg2 arg3 harg3 arg4 harg4 arg5 harg5 arg6 harg6 arg7 harg7 arg8 harg8 arg9 harg9 arg10 harg10 : Prog (TpuEff nD τ sig (Elt F) Λ₀ .tc) PUnit) = k0_part109 i arg1 harg1 arg2 harg2 arg3 harg3 arg4 harg4 arg5 harg5 arg6 harg6 arg7 harg7 arg8 harg8 arg9 harg9 arg10 harg10 := by
    unfold quantiseAt; rw [dif_pos hc]; exact bind_pure _
  rw [e]
  have e6 := harg6.eq_unread (read_stored arg6 hz2 inb_S8x8192_S8x8192_0_0 f6 (codesOf (scaledOf (xsOf x0))))
  have e7 := harg7.eq_unread (read_stored arg7 hz2 inb_S8x256_S8x256_0_0 f7 (scalesOf (sxOf (xsOf x0))))
  have e8 := harg8.eq_unread (read_lhs arg8 f8 (scaledOf (xsOf x0)))
  have e9 := harg9.eq_unread (read_sx arg9 f9 (sxOf (xsOf x0)))
  iintro ⟨H1, H6, H7, H8, H9⟩
  iapply (head_spec c i arg1 harg1 arg2 harg2 arg3 harg3 arg4 harg4 arg5 harg5 arg6 harg6 arg7 harg7 arg8 harg8 arg9 harg9 arg10 harg10 x0 (head6 c i arg1 harg1 arg2 harg2 arg3 harg3 arg4 harg4 arg5 harg5 arg6 harg6 arg7 harg7 arg8 harg8 arg9 harg9 arg10 harg10 x0) (head7 c i arg1 harg1 arg2 harg2 arg3 harg3 arg4 harg4 arg5 harg5 arg6 harg6 arg7 harg7 arg8 harg8 arg9 harg9 arg10 harg10 x0) (head8 c i arg1 harg1 arg2 harg2 arg3 harg3 arg4 harg4 arg5 harg5 arg6 harg6 arg7 harg7 arg8 harg8 arg9 harg9 arg10 harg10 x0) (head9 c i arg1 harg1 arg2 harg2 arg3 harg3 arg4 harg4 arg5 harg5 arg6 harg6 arg7 harg7 arg8 harg8 arg9 harg9 arg10 harg10 x0) f6 f7 f8 f9 e6 e7 e8 e9 _)
  isplitl [H1]; · iexact H1
  isplitl [H6]; · iexact H6
  isplitl [H7]; · iexact H7
  isplitl [H8]; · iexact H8
  isplitl [H9]; · iexact H9
  iintro ⟨H1, H6, H7, H8, H9⟩
  isplitl [H8]; · iexact H8
  isplitl [H9]; · iexact H9
  isplitl [H1]; · iexact H1
  isplitl [H6]; · iexact H6
  iexact H7

/-- At every later point the region does nothing. -/
theorem quantise_later (c : Dev nD) (i : grid0.Coords) (arg1 : Memref sig .tc .vmem S8x8192 .bf16) (harg1 : arg1.IsWhole) (arg2 : Memref sig .tc .vmem S256x8192 .fp8e4m3) (harg2 : arg2.IsWhole) (arg3 : Memref sig .tc .vmem S256x256 .i8) (harg3 : arg3.IsWhole) (arg4 : Memref sig .tc .vmem S1x256 .f32) (harg4 : arg4.IsWhole) (arg5 : Memref sig .tc .vmem S8x256 .bf16) (harg5 : arg5.IsWhole) (arg6 : Memref sig .tc .vmem S8x8192 .fp8e4m3) (harg6 : arg6.IsWhole) (arg7 : Memref sig .tc .vmem S8x256 .i8) (harg7 : arg7.IsWhole) (arg8 : Memref sig .tc .vmem S64x32x128 .fp8e4m3) (harg8 : arg8.IsWhole) (arg9 : Memref sig .tc .vmem S256x8x128 .f32) (harg9 : arg9.IsWhole) (arg10 : Memref sig .tc .vmem S256x256 .f32) (harg10 : arg10.IsWhole) (hc : ¬k0_cond1 i = 1#1) (d8 : Vec F S64x32x128 .fp8e4m3) (d9 : Vec F S256x8x128 .f32) :
    (iprop((arg8.view.loc (c : Thread nD τ) ↦[arg8.view.set]{fullShare} harg8.unread d8) ∗ (arg9.view.loc (c : Thread nD τ) ↦[arg9.view.set]{fullShare} harg9.unread d9)) : sProp 𝕄)
      ⊢ wp frame (wpE (defs₀ (F := F)) Variants.none c none) Set.univ (quantiseAt i arg1 harg1 arg2 harg2 arg3 harg3 arg4 harg4 arg5 harg5 arg6 harg6 arg7 harg7 arg8 harg8 arg9 harg9 arg10 harg10) (fun _ => iprop((arg8.view.loc (c : Thread nD τ) ↦[arg8.view.set]{fullShare} harg8.unread d8) ∗ (arg9.view.loc (c : Thread nD τ) ↦[arg9.view.set]{fullShare} harg9.unread d9) ∗ emp)) := by
  unfold quantiseAt; rw [dif_neg hc]
  iintro ⟨H8, H9⟩
  sl_step
  isplitl [H8]; · iexact H8
  isplitl [H9]; · iexact H9
  iempintro

/-- The body at grid point 0. -/
theorem step_first (c : Dev nD) (i : grid0.Coords) (arg1 : Memref sig .tc .vmem S8x8192 .bf16) (harg1 : arg1.IsWhole) (arg2 : Memref sig .tc .vmem S256x8192 .fp8e4m3) (harg2 : arg2.IsWhole) (arg3 : Memref sig .tc .vmem S256x256 .i8) (harg3 : arg3.IsWhole) (arg4 : Memref sig .tc .vmem S1x256 .f32) (harg4 : arg4.IsWhole) (arg5 : Memref sig .tc .vmem S8x256 .bf16) (harg5 : arg5.IsWhole) (arg6 : Memref sig .tc .vmem S8x8192 .fp8e4m3) (harg6 : arg6.IsWhole) (arg7 : Memref sig .tc .vmem S8x256 .i8) (harg7 : arg7.IsWhole) (arg8 : Memref sig .tc .vmem S64x32x128 .fp8e4m3) (harg8 : arg8.IsWhole) (arg9 : Memref sig .tc .vmem S256x8x128 .f32) (harg9 : arg9.IsWhole) (arg10 : Memref sig .tc .vmem S256x256 .f32) (harg10 : arg10.IsWhole) (hc : k0_cond1 i = 1#1)
    (x0 : Vec F S8x8192 .bf16) (x1 : Vec F S256x8192 .fp8e4m3) (x2 : Vec F S256x256 .i8) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (yOf (lhsAll (scaledOf (xsOf x0))) (sxAll (sxOf (xsOf x0))) x1 x2 x3) ∗ owns (c : Thread nD τ) arg6 fullShare (codesOf (scaledOf (xsOf x0))) ∗ owns (c : Thread nD τ) arg7 fullShare (scalesOf (sxOf (xsOf x0)))
            ∗ owns (c : Thread nD τ) arg8 fullShare (lhsAll (scaledOf (xsOf x0))) ∗ owns (c : Thread nD τ) arg9 fullShare (sxAll (sxOf (xsOf x0))) ∗ (∃ d, owns (c : Thread nD τ) arg10 fullShare d)) -∗ K ⟨⟩))
      ⊢ wp frame (wpE (defs₀ (F := F)) Variants.none c none) Set.univ (cc0__kernel i arg1 harg1 arg2 harg2 arg3 harg3 arg4 harg4 arg5 harg5 arg6 harg6 arg7 harg7 arg8 harg8 arg9 harg9 arg10 harg10) K := by
  unfold owns
  iintro ⟨⟨%f1, %h1, H1⟩, ⟨%f2, %h2, H2⟩, ⟨%f3, %h3, H3⟩, ⟨%f4, %h4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  obtain rfl := harg1.eq_unread h1
  obtain rfl := harg2.eq_unread h2
  obtain rfl := harg3.eq_unread h3
  obtain rfl := harg4.eq_unread h4
  iapply ((bodyRun c i arg1 harg1 arg2 harg2 arg3 harg3 arg4 harg4 arg5 harg5 arg6 harg6 arg7 harg7 arg8 harg8 arg9 harg9 arg10 harg10 x1 x2 x3 (lhsAll (scaledOf (xsOf x0))) (sxAll (sxOf (xsOf x0)))).2.property
    _ _ (quantise_first c i arg1 harg1 arg2 harg2 arg3 harg3 arg4 harg4 arg5 harg5 arg6 harg6 arg7 harg7 arg8 harg8 arg9 harg9 arg10 harg10 hc x0 f6 f7 f8 f9) f5 f10 K)
  isplitl [H2]; · iexact H2
  isplitl [H3]; · iexact H3
  isplitl [H4]; · iexact H4
  isplitl [H5]; · iexact H5
  isplitl [H10]; · iexact H10
  isplitl [H1 H6 H7 H8 H9]
  · isplitl [H1]; · iexact H1
    isplitl [H6]; · iexact H6
    isplitl [H7]; · iexact H7
    isplitl [H8]; · iexact H8
    iexact H9
  iintro ⟨H2, H3, H4, H5, H10, H8, H9, H1, H6, H7⟩
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; rw [body5]
    exact read_stored arg5 hz2 inb_S8x256_S8x256_0_0 f5 _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  iexists _; iexists _; isplitr; swap; · iexact H10
  ipureintro; rfl

/-- The body at a later point: the quantiser's windows are not touched. -/
theorem step_later (c : Dev nD) (i : grid0.Coords) (arg1 : Memref sig .tc .vmem S8x8192 .bf16) (harg1 : arg1.IsWhole) (arg2 : Memref sig .tc .vmem S256x8192 .fp8e4m3) (harg2 : arg2.IsWhole) (arg3 : Memref sig .tc .vmem S256x256 .i8) (harg3 : arg3.IsWhole) (arg4 : Memref sig .tc .vmem S1x256 .f32) (harg4 : arg4.IsWhole) (arg5 : Memref sig .tc .vmem S8x256 .bf16) (harg5 : arg5.IsWhole) (arg6 : Memref sig .tc .vmem S8x8192 .fp8e4m3) (harg6 : arg6.IsWhole) (arg7 : Memref sig .tc .vmem S8x256 .i8) (harg7 : arg7.IsWhole) (arg8 : Memref sig .tc .vmem S64x32x128 .fp8e4m3) (harg8 : arg8.IsWhole) (arg9 : Memref sig .tc .vmem S256x8x128 .f32) (harg9 : arg9.IsWhole) (arg10 : Memref sig .tc .vmem S256x256 .f32) (harg10 : arg10.IsWhole) (hc : ¬k0_cond1 i = 1#1)
    (x1 : Vec F S256x8192 .fp8e4m3) (x2 : Vec F S256x256 .i8) (x3 : Vec F S1x256 .f32) (d8 : Vec F S64x32x128 .fp8e4m3) (d9 : Vec F S256x8x128 .f32) (K : PUnit → sProp 𝕄) :
    iprop(owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg8 fullShare d8 ∗ owns (c : Thread nD τ) arg9 fullShare d9 ∗ (∃ d, owns (c : Thread nD τ) arg10 fullShare d)
        ∗ (iprop(owns (c : Thread nD τ) arg2 fullShare x1 ∗ owns (c : Thread nD τ) arg3 fullShare x2 ∗ owns (c : Thread nD τ) arg4 fullShare x3 ∗ owns (c : Thread nD τ) arg5 fullShare (yOf d8 d9 x1 x2 x3)
            ∗ owns (c : Thread nD τ) arg8 fullShare d8 ∗ owns (c : Thread nD τ) arg9 fullShare d9 ∗ (∃ d, owns (c : Thread nD τ) arg10 fullShare d)) -∗ K ⟨⟩))
      ⊢ wp frame (wpE (defs₀ (F := F)) Variants.none c none) Set.univ (cc0__kernel i arg1 harg1 arg2 harg2 arg3 harg3 arg4 harg4 arg5 harg5 arg6 harg6 arg7 harg7 arg8 harg8 arg9 harg9 arg10 harg10) K := by
  unfold owns
  iintro ⟨⟨%f2, %h2, H2⟩, ⟨%f3, %h3, H3⟩, ⟨%f4, %h4, H4⟩, ⟨%d5, %f5, -, H5⟩, ⟨%f8, %h8, H8⟩, ⟨%f9, %h9, H9⟩, ⟨%d10, %f10, -, H10⟩, Hk⟩
  obtain rfl := harg2.eq_unread h2
  obtain rfl := harg3.eq_unread h3
  obtain rfl := harg4.eq_unread h4
  obtain rfl := harg8.eq_unread h8
  obtain rfl := harg9.eq_unread h9
  iapply ((bodyRun c i arg1 harg1 arg2 harg2 arg3 harg3 arg4 harg4 arg5 harg5 arg6 harg6 arg7 harg7 arg8 harg8 arg9 harg9 arg10 harg10 x1 x2 x3 d8 d9).2.property
    _ _ (quantise_later c i arg1 harg1 arg2 harg2 arg3 harg3 arg4 harg4 arg5 harg5 arg6 harg6 arg7 harg7 arg8 harg8 arg9 harg9 arg10 harg10 hc d8 d9) f5 f10 K)
  isplitl [H2]; · iexact H2
  isplitl [H3]; · iexact H3
  isplitl [H4]; · iexact H4
  isplitl [H5]; · iexact H5
  isplitl [H10]; · iexact H10
  isplitl [H8 H9]
  · isplitl [H8]; · iexact H8
    iexact H9
  iintro ⟨H2, H3, H4, H5, H10, H8, H9, -⟩
  iapply Hk
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; rw [body5]
    exact read_stored arg5 hz2 inb_S8x256_S8x256_0_0 f5 _
  isplitl [H8]
  · iexists _; isplitr; swap; · iexact H8
    ipureintro; exact h8
  isplitl [H9]
  · iexists _; isplitr; swap; · iexact H9
    ipureintro; exact h9
  iexists _; iexists _; isplitr; swap; · iexact H10
  ipureintro; rfl

end Cert.KernelIdeal.Hand

end
-- ==== Proof.Run.lean ====
module

public import proofs.«01_k».proof.Proof.Gen.KernelIdeal.Frame
public import proofs.«01_k».proof.Proof.Gen.KernelIdeal.Skeleton
public import proofs.«01_k».proof.Proof.Step
public import proofs.«01_k».proof.Proof.Gen.KernelIdeal.Points
public import proofs.«01_k».proof.Proof.Gen.KernelIdeal.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's condition, its windows and its scratch -/

/-- The condition of the body's `scf.if`, from the grid coordinates. -/
abbrev cond0_0 (i : grid0.Coords) : Prop := k0_cond1 i = 1#1
/-- It holds at the first point only — by arithmetic of the point. -/
theorem hcond0_0 : ∀ t : Fin cfg0.N, cond0_0 (grid0.coords t) ↔ t.val % 11 = 0 :=
  (fun t => by
    have ht : t.val < 11 := Nat.lt_of_lt_of_eq t.isLt N_0
    have e0 : (grid0.coords t 0).val = t.val / 1 % 11 := Pipeline.Grid.coords_val t 0 (by decide) rfl
    simp only [cond0_0, k0_cond1, e0]
    word_cmp
   : ∀ t : Fin grid0.N, cond0_0 (grid0.coords t) ↔ t.val % 11 = 0)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : cfg0.idle 5 (grid0.coords t0_0) = false := by
  show (!(k0_cond1 (grid0.coords t0_0) == 1#1)) = false
  rw [Bool.not_eq_false', beq_iff_eq]; exact (hcond0_0 t0_0).mpr rfl
/-- Window 5 is written at the first point only. -/
theorem idleAt0_5 (t : Fin cfg0.N) (ht : t.val ≠ 0) : cfg0.idle 5 (grid0.coords t) = true := by
  have hN : t.val < 11 := lt_of_lt_of_eq t.isLt (show cfg0.N = 11 from N_0)
  show (!(k0_cond1 (grid0.coords t) == 1#1)) = true
  rw [Bool.not_eq_true', beq_eq_false_iff_ne]; exact fun h => ht (by have := (hcond0_0 t).mp h; omega)

theorem liveAt0_6 : cfg0.idle 6 (grid0.coords t0_0) = false := by
  show (!(k0_cond1 (grid0.coords t0_0) == 1#1)) = false
  rw [Bool.not_eq_false', beq_iff_eq]; exact (hcond0_0 t0_0).mpr rfl
/-- Window 6 is written at the first point only. -/
theorem idleAt0_6 (t : Fin cfg0.N) (ht : t.val ≠ 0) : cfg0.idle 6 (grid0.coords t) = true := by
  have hN : t.val < 11 := lt_of_lt_of_eq t.isLt (show cfg0.N = 11 from N_0)
  show (!(k0_cond1 (grid0.coords t) == 1#1)) = true
  rw [Bool.not_eq_true', beq_eq_false_iff_ne]; exact fun h => ht (by have := (hcond0_0 t).mp h; omega)

/-- Each window's current staging memref at point `t`, spelled as the pipeline passes it (`bodyAt0`), and its wholeness. -/
abbrev ms0_0 (t : Fin cfg0.N) : Memref sig .tc .vmem S8x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x8192 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x8192 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x256 .i8 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S64x32x128 .fp8e4m3 := Memref.whole cc0_scratch0
abbrev scM0_1 : Memref sig .tc .vmem S256x8x128 .f32 := Memref.whole cc0_scratch1
abbrev scM0_2 : Memref sig .tc .vmem S256x256 .f32 := Memref.whole cc0_scratch2

/-- The invariant before the first point and after the last: the scratch operands owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The proof data -/

/-- `x` as the region finds it staged. -/
def xAt (c : Dev nD) : Vec F S8x8192 .bf16 := iblk m c 0 t0_0

/-- Before grid point `n`: at the first point the scratch arrays hold anything; afterwards the left operand's scratch
    and the scale scratch hold what the quantiser left. -/
def inv (c : Dev nD) (n : Nat) : sProp 𝕄 :=
  if n = 0 then Pipeline.ΦA spec0 c else
    iprop(iprop(owns (c : Thread nD τ) scM0_0 fullShare (lhsAll (scaledOf (xsOf (xAt m c))))
      ∗ owns (c : Thread nD τ) scM0_1 fullShare (sxAll (sxOf (xsOf (xAt m c))))
      ∗ (∃ d, owns (c : Thread nD τ) scM0_2 fullShare d)) ∗ (∃ r, prngReg c r))

/-- The proof data of the one pipeline on core `c`: the arrays as the region finds them; after the body at point `t`
    each input's buffer at its block, the result window at `yOf` of the quantised `x` and the blocks, the code and
    scale windows at the codes and scales of `x`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yOf (lhsAll (scaledOf (xsOf (xAt m c)))) (sxAll (sxOf (xsOf (xAt m c)))) (iblk m c 1 t) (iblk m c 2 t) (iblk m c 3 t)
    | ⟨5, _⟩ => codesOf (scaledOf (xsOf (xAt m c)))
    | ⟨6, _⟩ => scalesOf (sxOf (xsOf (xAt m c)))
  Φ t := inv m c t.val
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t
    = yOf (lhsAll (scaledOf (xsOf (xAt m c)))) (sxAll (sxOf (xsOf (xAt m c)))) (iblk m c 1 t) (iblk m c 2 t) (iblk m c 3 t) := by dsimp only [dats]
theorem after0_5 (c : Dev nD) (t : Fin cfg0.N) : (dats m 0 c).after 5 t = codesOf (scaledOf (xsOf (xAt m c))) := by dsimp only [dats]
theorem after0_6 (c : Dev nD) (t : Fin cfg0.N) : (dats m 0 c).after 6 t = scalesOf (sxOf (xsOf (xAt m c))) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a later point the code window still holds the codes: it is written back after the last point only. -/
theorem before0_5 (c : Dev nD) : ∀ (n : Nat) (h : n + 1 < cfg0.N) (d),
    (dats m 0 c).before 5 ⟨n + 1, h⟩ d = codesOf (scaledOf (xsOf (xAt m c))) := by
  intro n
  induction n with
  | zero =>
    intro h d
    have hf : (cfg0.win 5).flush t0_0 = false := by rw [← Bool.not_eq_true, flush0_5]; show ¬(0 % 11 = 10); omega
    rw [(dats m 0 c).before_of_pos 5 ⟨0 + 1, h⟩ (Nat.succ_ne_zero _) ((cfg0.win 5).fetch_out rfl _)]
    show (if (cfg0.win 5).flush t0_0 then d else (dats m 0 c).left 5 t0_0 d) = _
    rw [hf, if_neg Bool.false_ne_true]
    unfold Dat.left; rw [liveAt0_5]; dsimp only
    unfold Dat.kept
    rw [Pipeline.fill_of_clip_none (cfg := cfg0) 5 _ (fun _ => rfl) d ((dats m 0 c).after 5 t0_0), Window.fill_cut, after0_5]
  | succ n ih =>
    intro h d
    have h' : n + 1 < cfg0.N := by omega
    have hN : n + 1 + 1 < 11 := lt_of_lt_of_eq h (show cfg0.N = 11 from N_0)
    have hf : (cfg0.win 5).flush ⟨n + 1, h'⟩ = false := by
      rw [← Bool.not_eq_true, flush0_5]; show ¬((n + 1) % 11 = 10); omega
    rw [(dats m 0 c).before_of_pos 5 ⟨n + 1 + 1, h⟩ (Nat.succ_ne_zero _) ((cfg0.win 5).fetch_out rfl _)]
    show (if (cfg0.win 5).flush ⟨n + 1, h'⟩ then d else (dats m 0 c).left 5 ⟨n + 1, h'⟩ d) = _
    rw [hf, if_neg Bool.false_ne_true]
    unfold Dat.left; rw [idleAt0_5 ⟨n + 1, h'⟩ (Nat.succ_ne_zero _)]; dsimp only
    exact ih h' d

theorem before0_5_later (c : Dev nD) (t : Fin cfg0.N) (ht : t.val ≠ 0) (d) :
    (dats m 0 c).before 5 t d = codesOf (scaledOf (xsOf (xAt m c))) := by
  obtain ⟨_ | n, h⟩ := t
  · exact absurd rfl ht
  · exact before0_5 m c n h d

/-- At a later point the code window is handed back as found, at the codes. -/
theorem leaves0_5_later (c : Dev nD) (t : Fin cfg0.N) (ht : t.val ≠ 0) :
    owns (c : Thread nD τ) (ms0_5 t) fullShare (codesOf (scaledOf (xsOf (xAt m c)))) ⊢ ((dats m 0 c).leavesExact 5 t : sProp 𝕄) := by
  cases hf : (cfg0.win 5).flush t
  · rw [(dats m 0 c).leavesExact_idle 5 t (idleAt0_5 t ht) hf]
    simp only [before0_5_later m c t ht]
    iintro H; iexists codesOf (scaledOf (xsOf (xAt m c))); iexact H
  · unfold Dat.leavesExact; rw [idleAt0_5 t ht, hf]; dsimp only; rw [after0_5]

theorem leaves0_5_first (c : Dev nD) :
    (dats m 0 c).leavesExact 5 t0_0 = owns (c : Thread nD τ) (ms0_5 t0_0) fullShare (codesOf (scaledOf (xsOf (xAt m c)))) := by
  unfold Dat.leavesExact; rw [liveAt0_5]; dsimp only; rw [after0_5]

/-- At a later point the scale window still holds the scales: it is written back after the last point only. -/
theorem before0_6 (c : Dev nD) : ∀ (n : Nat) (h : n + 1 < cfg0.N) (d),
    (dats m 0 c).before 6 ⟨n + 1, h⟩ d = scalesOf (sxOf (xsOf (xAt m c))) := by
  intro n
  induction n with
  | zero =>
    intro h d
    have hf : (cfg0.win 6).flush t0_0 = false := by rw [← Bool.not_eq_true, flush0_6]; show ¬(0 % 11 = 10); omega
    rw [(dats m 0 c).before_of_pos 6 ⟨0 + 1, h⟩ (Nat.succ_ne_zero _) ((cfg0.win 6).fetch_out rfl _)]
    show (if (cfg0.win 6).flush t0_0 then d else (dats m 0 c).left 6 t0_0 d) = _
    rw [hf, if_neg Bool.false_ne_true]
    unfold Dat.left; rw [liveAt0_6]; dsimp only
    unfold Dat.kept
    rw [Pipeline.fill_of_clip_none (cfg := cfg0) 6 _ (fun _ => rfl) d ((dats m 0 c).after 6 t0_0), Window.fill_cut, after0_6]
  | succ n ih =>
    intro h d
    have h' : n + 1 < cfg0.N := by omega
    have hN : n + 1 + 1 < 11 := lt_of_lt_of_eq h (show cfg0.N = 11 from N_0)
    have hf : (cfg0.win 6).flush ⟨n + 1, h'⟩ = false := by
      rw [← Bool.not_eq_true, flush0_6]; show ¬((n + 1) % 11 = 10); omega
    rw [(dats m 0 c).before_of_pos 6 ⟨n + 1 + 1, h⟩ (Nat.succ_ne_zero _) ((cfg0.win 6).fetch_out rfl _)]
    show (if (cfg0.win 6).flush ⟨n + 1, h'⟩ then d else (dats m 0 c).left 6 ⟨n + 1, h'⟩ d) = _
    rw [hf, if_neg Bool.false_ne_true]
    unfold Dat.left; rw [idleAt0_6 ⟨n + 1, h'⟩ (Nat.succ_ne_zero _)]; dsimp only
    exact ih h' d

theorem before0_6_later (c : Dev nD) (t : Fin cfg0.N) (ht : t.val ≠ 0) (d) :
    (dats m 0 c).before 6 t d = scalesOf (sxOf (xsOf (xAt m c))) := by
  obtain ⟨_ | n, h⟩ := t
  · exact absurd rfl ht
  · exact before0_6 m c n h d

/-- At a later point the scale window is handed back as found, at the scales. -/
theorem leaves0_6_later (c : Dev nD) (t : Fin cfg0.N) (ht : t.val ≠ 0) :
    owns (c : Thread nD τ) (ms0_6 t) fullShare (scalesOf (sxOf (xsOf (xAt m c)))) ⊢ ((dats m 0 c).leavesExact 6 t : sProp 𝕄) := by
  cases hf : (cfg0.win 6).flush t
  · rw [(dats m 0 c).leavesExact_idle 6 t (idleAt0_6 t ht) hf]
    simp only [before0_6_later m c t ht]
    iintro H; iexists scalesOf (sxOf (xsOf (xAt m c))); iexact H
  · unfold Dat.leavesExact; rw [idleAt0_6 t ht, hf]; dsimp only; rw [after0_6]

theorem leaves0_6_first (c : Dev nD) :
    (dats m 0 c).leavesExact 6 t0_0 = owns (c : Thread nD τ) (ms0_6 t0_0) fullShare (scalesOf (sxOf (xsOf (xAt m c)))) := by
  unfold Dat.leavesExact; rw [liveAt0_6]; dsimp only; rw [after0_6]

/-! ## The body obligation -/

theorem leaves0_0 (c : Dev nD) (t : Fin cfg0.N) :
    (dats m 0 c).leavesExact 0 t = owns (c : Thread nD τ) (ms0_0 t) fullShare ((dats m 0 c).after 0 t) := by
  unfold Dat.leavesExact; rw [liveAt0_0 t]
theorem leaves0_1 (c : Dev nD) (t : Fin cfg0.N) :
    (dats m 0 c).leavesExact 1 t = owns (c : Thread nD τ) (ms0_1 t) fullShare ((dats m 0 c).after 1 t) := by
  unfold Dat.leavesExact; rw [liveAt0_1 t]
theorem leaves0_2 (c : Dev nD) (t : Fin cfg0.N) :
    (dats m 0 c).leavesExact 2 t = owns (c : Thread nD τ) (ms0_2 t) fullShare ((dats m 0 c).after 2 t) := by
  unfold Dat.leavesExact; rw [liveAt0_2 t]
theorem leaves0_3 (c : Dev nD) (t : Fin cfg0.N) :
    (dats m 0 c).leavesExact 3 t = owns (c : Thread nD τ) (ms0_3 t) fullShare ((dats m 0 c).after 3 t) := by
  unfold Dat.leavesExact; rw [liveAt0_3 t]
theorem leaves0_4 (c : Dev nD) (t : Fin cfg0.N) :
    (dats m 0 c).leavesExact 4 t = owns (c : Thread nD τ) (ms0_4 t) fullShare ((dats m 0 c).after 4 t) := by
  unfold Dat.leavesExact; rw [liveAt0_4 t]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point: at the first it quantises (`step_first`), later it reads what the first point left (`step_later`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = inv m c (t.val + 1) from rfl, show (dats m 0 c).Φ t.castSucc = inv m c t.val from rfl,
    leaves0_0, leaves0_1, leaves0_2, leaves0_3, leaves0_4,
    after0_0, after0_1, after0_2, after0_3, after0_4]
  have hN : t.val < 11 := lt_of_lt_of_eq t.isLt (show cfg0.N = 11 from N_0)
  rw [show inv m c (t.val + 1) = iprop(iprop(owns (c : Thread nD τ) scM0_0 fullShare (lhsAll (scaledOf (xsOf (xAt m c))))
      ∗ owns (c : Thread nD τ) scM0_1 fullShare (sxAll (sxOf (xsOf (xAt m c))))
      ∗ (∃ d, owns (c : Thread nD τ) scM0_2 fullShare d)) ∗ (∃ r, prngReg c r)) from by
    unfold inv; rw [if_neg (Nat.succ_ne_zero _)]]
  by_cases h0 : t.val = 0
  · obtain rfl : t = t0_0 := Fin.ext h0
    rw [show inv m c (t0_0 : Fin cfg0.N).val = Pipeline.ΦA spec0 c from by unfold inv; rw [if_pos h0], PhiA0_eq, leaves0_5_first, leaves0_6_first]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply (step_first c (grid0.coords t0_0) _ _ _ _ _ _ _ _ _ _ _ _ _ _ _ _ _ _ _ _ ((hcond0_0 t0_0).mpr rfl) (xAt m c) (iblk m c 1 t0_0) (iblk m c 2 t0_0) (iblk m c 3 t0_0) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before0_5_later m c t h0, before0_6_later m c t h0]
    rw [show inv m c t.val = iprop(iprop(owns (c : Thread nD τ) scM0_0 fullShare (lhsAll (scaledOf (xsOf (xAt m c))))
      ∗ owns (c : Thread nD τ) scM0_1 fullShare (sxAll (sxOf (xsOf (xAt m c))))
      ∗ (∃ d, owns (c : Thread nD τ) scM0_2 fullShare d)) ∗ (∃ r, prngReg c r)) from by
      unfold inv; rw [if_neg h0]]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply (step_later c (grid0.coords t) (ms0_0 t) (hs0_0 t) _ _ _ _ _ _ _ _ (ms0_5 t) (hs0_5 t) (ms0_6 t) (hs0_6 t) _ _ _ _ _ _ (fun h => h0 (by have := (hcond0_0 t).mp h; omega)) (iblk m c 1 t) (iblk m c 2 t) (iblk m c 3 t) _ _ _)
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H1, H2, H3, H4, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves0_5_later m c t h0); iexact H5
    iapply (leaves0_6_later m c t h0); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem inv_in (c : Dev nD) : (Pipeline.ΦA spec0 c : sProp 𝕄) ⊢ inv m c 0 := by
  unfold inv; rw [if_pos rfl]

theorem inv_out (c : Dev nD) : inv m c 11 ⊢ (Pipeline.ΦA spec0 c : sProp 𝕄) := by
  rw [PhiA0_eq]; unfold inv; rw [if_neg (by decide)]
  iintro ⟨⟨HS0, HS1, HS2⟩, Hg⟩
  isplitl [HS0 HS1 HS2]
  · isplitl [HS0]; · iexists _; iexact HS0
    isplitl [HS1]; · iexists _; iexact HS1
    iexact HS2
  iexact Hg

-- the run's implicit arguments are found by unifying its conclusion with this one, which takes unfolding plain
-- definitions in a metavariable's type
set_option backward.isDefEq.respectTransparency.types false in
set_option maxHeartbeats 800000 in
/-- Every weakly fair execution from a memory with zero counters ends, with every array at what the proof data gives,
    every other unscoped buffer as the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := inv_in m) (hout := fun c => (show (dats m 0 c).Φ (Fin.last cfg0.N) = inv m c 11 from by
      show inv m c (Fin.last cfg0.N).val = _; rw [Fin.val_last, show cfg0.N = 11 from N_0]) ▸ inv_out m c)

theorem run_main : θ_run defs (onTc (τ := τ) (main (F := F))) (s₀ m ρ) (Pipeline.FramePost cfgs (dats m) 0 (V m)) :=
  (θ_run defs _ _).mono (fun _ h => h.1) (run_main_quiescent m ρ)

end Cert.KernelIdeal.Hand

end
-- ==== Proof.Frame.lean ====
module

public import proofs.«01_k».proof.Proof.Run

@[expose] public section

noncomputable section

namespace Cert.KernelIdeal.Hand

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The frame of the kernel: every execution ends with the four argument arrays as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Scale.lean ====
module

public import Idealize.ShloMosaic.PureOps.Ideal
public import Idealize.ShloMosaic.PureOps.Ideal.Laws
public import Idealize.ShloMosaic.Lib.Pointwise

@[expose] public section

set_option maxRecDepth 16384

noncomputable section

namespace Cert.Scale

open Idealize.ShloMosaic

/-! The scale of a group as the kernel finds it, by comparing with powers of two bit by bit, and as the reference states it,
by a logarithm: they are the same whole number, and the powers of two the two sides then form are the same. -/

/-- The number whose exponent field is the word `e`, its other bits zero. -/
def pw (e : BitVec 32) : EReal := Ideal.ofBits .f32 (IntOp.shli ArithUnit.vector e 23#32)

/-- One bit of the exponent field. -/
def step (v : EReal) (bit f : BitVec 32) : BitVec 32 := if v < pw (IntOp.addi f bit) then f else IntOp.addi f bit

/-- The exponent field, bit by bit from the highest. -/
def field (v : EReal) : BitVec 32 :=
  step v 1#32 (step v 2#32 (step v 4#32 (step v 8#32 (step v 16#32 (step v 32#32 (step v 64#32 (step v 128#32 0#32)))))))

/-- The exponent word of a group with ratio `v`. -/
def expWord (v : EReal) : BitVec 32 :=
  IntOp.minsi 127#32 (IntOp.maxsi 4294967169#32
    (Scalar.select (IntOp.cmpi .eq (field v) 0#32) 0#32 (IntOp.subi (field v) 126#32)))

/-- Two to the power `n` as the reference states it: nothing below `-126`, infinity above `127`. -/
def powRef (n : EReal) : EReal :=
  if n < Ideal.ofBits .f32 0xC2FC0000#32 then 0
  else if Ideal.ofBits .f32 0x42FE0000#32 < n then Ideal.ofBits .f32 0x7F800000#32 else Ideal.exp2 n

/-- A ratio below the smallest normal number counts as zero. -/
def flush (v : EReal) : EReal := if v < Ideal.ofBits .f32 0x00800000#32 then 0 else v

/-- The exponent of a group with ratio `v` as the reference states it. -/
def expRef (v : EReal) : EReal :=
  min (Ideal.ofBits .f32 0x42FE0000#32) (max (Ideal.ofBits .f32 0xC2FE0000#32)
    (if flush v = 0 then 0
     else Ideal.liftRound Int.floor (Ideal.div (Ideal.log (flush v)) (Ideal.log (Ideal.ofBits .f32 0x40000000#32))) + 1))

theorem c_126 : Ideal.ofBits .f32 0xC2FC0000#32 = ((-126 : ℝ) : EReal) := by
  simp [Ideal.ofBits, Ideal.ieee, -EReal.coe_mul, -EReal.coe_neg]; norm_num
theorem c127 : Ideal.ofBits .f32 0x42FE0000#32 = ((127 : ℝ) : EReal) := by
  simp [Ideal.ofBits, Ideal.ieee, -EReal.coe_mul]; norm_num
theorem c_127 : Ideal.ofBits .f32 0xC2FE0000#32 = ((-127 : ℝ) : EReal) := by
  simp [Ideal.ofBits, Ideal.ieee, -EReal.coe_mul, -EReal.coe_neg]; norm_num
theorem cinf : Ideal.ofBits .f32 0x7F800000#32 = ⊤ := by simp [Ideal.ofBits, Ideal.ieee]
theorem cninf : Ideal.ofBits .f32 0xFF800000#32 = ⊥ := by simp [Ideal.ofBits, Ideal.ieee]
theorem c2 : Ideal.ofBits .f32 0x40000000#32 = ((2 : ℝ) : EReal) := by
  simp [Ideal.ofBits, Ideal.ieee, -EReal.coe_mul]; norm_num
theorem cmin : Ideal.ofBits .f32 0x00800000#32 = (((2 : ℝ) ^ (-126 : ℤ) : ℝ) : EReal) := by
  simp [Ideal.ofBits, Ideal.ieee, -EReal.coe_mul]; norm_num

/-- The word `n` shifted into the exponent field. -/
theorem shli_toNat (n : ℕ) (h : n ≤ 255) : (IntOp.shli ArithUnit.vector (BitVec.ofNat 32 n) 23#32).toNat = n * 8388608 := by
  rw [IntOp.shli, if_pos (by decide), BitVec.shiftLeft_eq', show (23#32 : BitVec 32).toNat = 23 from rfl, BitVec.toNat_shiftLeft,
    BitVec.toNat_ofNat, Nat.shiftLeft_eq]
  omega

/-- The number whose bits are `b`, sign and fraction zero and exponent field `n`. -/
theorem ieee_fields (b : BitVec 32) (n : ℕ) (e1 : (b.extractLsb' 23 8).toNat = n) (e2 : (b.extractLsb' 0 23).toNat = 0)
    (e3 : (b.extractLsb' 31 1 == 1#1) = false) :
    Ideal.ieee 8 23 b = if n = 255 then ⊤ else if n = 0 then 0 else (((2 : ℝ) ^ ((n : ℤ) - 127) : ℝ) : EReal) := by
  unfold Ideal.ieee
  simp only [e1, e2, show (8 + 23 : ℕ) = 31 from rfl, e3]
  by_cases h5 : n = 255
  · subst h5; simp
  · by_cases h0 : n = 0
    · subst h0; simp
    · rw [if_neg (by omega), if_neg h0, if_neg h5, if_neg h0]
      congr 1
      simp only [Bool.false_eq_true, if_false, one_mul, Nat.add_zero]
      push_cast
      rw [show (8388608 : ℝ) = (2 : ℝ) ^ (23 : ℤ) by norm_num, ← zpow_add₀ (by norm_num : (2 : ℝ) ≠ 0)]
      congr 1; omega

/-- The exponent field of the word `n * 2 ^ 23`. -/
theorem field_bits (b : BitVec 32) (n : ℕ) (h : n ≤ 255) (hb : b.toNat = n * 8388608) :
    (b.extractLsb' 23 8).toNat = n ∧ (b.extractLsb' 0 23).toNat = 0 ∧ (b.extractLsb' 31 1 == 1#1) = false := by
  refine ⟨?_, ?_, ?_⟩
  · rw [BitVec.extractLsb'_toNat, Nat.shiftRight_eq_div_pow, hb]; omega
  · rw [BitVec.extractLsb'_toNat, Nat.shiftRight_eq_div_pow, hb]; omega
  · rw [beq_eq_false_iff_ne]; intro hh
    have := congrArg BitVec.toNat hh
    rw [BitVec.extractLsb'_toNat, Nat.shiftRight_eq_div_pow, hb] at this
    have h1 : (1#1 : BitVec 1).toNat = 1 := rfl
    omega

/-- The number with exponent field `n`: zero, a power of two, or infinity. -/
theorem pw_ofNat (n : ℕ) (h : n ≤ 255) :
    pw (BitVec.ofNat 32 n) = if n = 255 then ⊤ else if n = 0 then 0 else (((2 : ℝ) ^ ((n : ℤ) - 127) : ℝ) : EReal) := by
  obtain ⟨e1, e2, e3⟩ := field_bits (IntOp.shli ArithUnit.vector (BitVec.ofNat 32 n) 23#32) n h (shli_toNat n h)
  exact ieee_fields _ n e1 e2 e3

/-- The two ways of forming a power of two agree: from the exponent field `n`, and from the number `n - 127`. -/
theorem pw_eq_powRef (n : ℕ) (h : n ≤ 255) : pw (BitVec.ofNat 32 n) = powRef ((((n : ℤ) - 127 : ℤ) : ℝ) : EReal) := by
  rw [pw_ofNat n h, powRef, c_126, c127, cinf]
  simp only [EReal.coe_lt_coe_iff]
  by_cases h5 : n = 255
  · subst h5; norm_num
  · by_cases h0 : n = 0
    · subst h0; norm_num
    · have g1 : ¬ ((((n : ℤ) - 127 : ℤ) : ℝ) < -126) := by
        rw [not_lt]; exact_mod_cast (by omega : (-126 : ℤ) ≤ (n : ℤ) - 127)
      have g2 : ¬ ((127 : ℝ) < (((n : ℤ) - 127 : ℤ) : ℝ)) := by
        rw [not_lt]; exact_mod_cast (by omega : (n : ℤ) - 127 ≤ (127 : ℤ))
      rw [if_neg h5, if_neg h0, if_neg g1, if_neg g2]
      show _ = (((2 : ℝ).rpow (((n : ℤ) - 127 : ℤ) : ℝ) : ℝ) : EReal)
      congr 1
      exact (Real.rpow_intCast 2 _).symm

/-- A larger exponent field is a larger number. -/
theorem pw_lt (a b : ℕ) (hab : a < b) (hb : b ≤ 255) : pw (BitVec.ofNat 32 a) < pw (BitVec.ofNat 32 b) := by
  rw [pw_ofNat a (by omega), pw_ofNat b hb, if_neg (by omega : ¬ a = 255)]
  by_cases hb5 : b = 255
  · rw [if_pos hb5]
    by_cases ha : a = 0
    · rw [if_pos ha]; exact EReal.zero_lt_top
    · rw [if_neg ha]; exact EReal.coe_lt_top _
  · rw [if_neg hb5, if_neg (by omega : ¬ b = 0)]
    by_cases ha : a = 0
    · rw [if_pos ha]; exact_mod_cast (by positivity : (0 : ℝ) < (2 : ℝ) ^ ((b : ℤ) - 127))
    · rw [if_neg ha, EReal.coe_lt_coe_iff]
      exact zpow_lt_zpow_right₀ (by norm_num) (by omega)

theorem pw_le (a b : ℕ) (hab : a ≤ b) (hb : b ≤ 255) : pw (BitVec.ofNat 32 a) ≤ pw (BitVec.ofNat 32 b) := by
  rcases Nat.lt_or_ge a b with h | h
  · exact (pw_lt a b h hb).le
  · rw [show a = b by omega]

/-- What is known of the field once the bits from `h` up are found: it is a multiple of `h` whose number is not above `v`, and
    the next multiple's is. -/
def Found (v : EReal) (h : ℕ) (f : BitVec 32) : Prop :=
  ∃ n : ℕ, f = BitVec.ofNat 32 n ∧ n + h ≤ 256 ∧ (n = 0 ∨ pw (BitVec.ofNat 32 n) ≤ v) ∧ (n + h = 256 ∨ v < pw (BitVec.ofNat 32 (n + h)))

theorem found_step (v : EReal) (h : ℕ) (f : BitVec 32) (hf : Found v (2 * h) f) : Found v h (step v (BitVec.ofNat 32 h) f) := by
  obtain ⟨n, rfl, hn, hlo, hhi⟩ := hf
  have ea : IntOp.addi (BitVec.ofNat 32 n) (BitVec.ofNat 32 h) = BitVec.ofNat 32 (n + h) := (BitVec.ofNat_add n h).symm
  unfold step; rw [ea]
  split_ifs with hc
  · exact ⟨n, rfl, by omega, hlo, Or.inr hc⟩
  · refine ⟨n + h, rfl, by omega, Or.inr (not_lt.mp hc), ?_⟩
    rwa [show n + h + h = n + 2 * h by omega]

/-- The field found: the largest `n` up to 255 whose number is not above `v`. -/
theorem field_spec (v : EReal) : ∃ n : ℕ, field v = BitVec.ofNat 32 n ∧ n ≤ 255 ∧ (n = 0 ∨ pw (BitVec.ofNat 32 n) ≤ v) ∧
    (n = 255 ∨ v < pw (BitVec.ofNat 32 (n + 1))) := by
  have h0 : Found v (2 * 128) 0#32 := ⟨0, rfl, by omega, Or.inl rfl, Or.inl rfl⟩
  obtain ⟨n, e, h1, h2, h3⟩ := found_step v 1 _ (found_step v 2 _ (found_step v 4 _ (found_step v 8 _ (found_step v 16 _
    (found_step v 32 _ (found_step v 64 _ (found_step v 128 _ h0)))))))
  exact ⟨n, e, by omega, h2, h3.imp (fun h => by omega) id⟩

/-- The field of a power of two is the field it was made from. -/
theorem field_pw (n : ℕ) (h : n ≤ 255) : field (pw (BitVec.ofNat 32 n)) = BitVec.ofNat 32 n := by
  obtain ⟨k, e, hk, h1, h2⟩ := field_spec (pw (BitVec.ofNat 32 n))
  rw [e]
  rcases lt_trichotomy k n with hlt | heq | hgt
  · rcases h2 with h2 | h2
    · omega
    · exact absurd h2 (not_lt.mpr (pw_le (k + 1) n (by omega) h))
  · rw [heq]
  · rcases h1 with h1 | h1
    · omega
    · exact absurd h1 (not_le.mpr (pw_lt n k hgt hk))

/-- The biased exponent of field `n`: 127 at field zero, else `n + 1` but not above 254. -/
def expNat (n : ℕ) : ℕ := if n = 0 then 127 else min 254 (n + 1)

theorem expNat_bounds (n : ℕ) : 2 ≤ expNat n ∧ expNat n ≤ 254 := by
  unfold expNat; split_ifs <;> omega

/-- The kernel's exponent word from the field's number. -/
theorem expWord_of_field (v : EReal) (n : ℕ) (hn : n ≤ 255) (e : field v = BitVec.ofNat 32 n) :
    expWord v = BitVec.ofNat 32 (expNat n) - 127#32 := by
  unfold expWord; rw [e]
  have : ∀ n : Fin 256, IntOp.minsi 127#32 (IntOp.maxsi 4294967169#32
      (Scalar.select (IntOp.cmpi .eq (BitVec.ofNat 32 n.val) 0#32) 0#32 (IntOp.subi (BitVec.ofNat 32 n.val) 126#32)))
        = BitVec.ofNat 32 (expNat n.val) - 127#32 := by decide +kernel
  exact this ⟨n, by omega⟩

/-- The floor of the base-two logarithm of a real between two powers of two. -/
theorem floor_log (r : ℝ) (k : ℤ) (h1 : (2 : ℝ) ^ k ≤ r) (h2 : r < (2 : ℝ) ^ (k + 1)) : ⌊Real.log r * (1 / Real.log 2)⌋ = k := by
  have hl : 0 < Real.log 2 := Real.log_pos (by norm_num)
  have hr : 0 < r := lt_of_lt_of_le (by positivity) h1
  rw [Int.floor_eq_iff, mul_one_div, le_div_iff₀ hl, div_lt_iff₀ hl]
  constructor
  · rw [← Real.log_zpow]; exact Real.log_le_log (by positivity) h1
  · have : ((k : ℝ) + 1) * Real.log 2 = Real.log ((2 : ℝ) ^ (k + 1)) := by rw [Real.log_zpow]; push_cast; ring
    rw [this]; exact Real.log_lt_log hr h2

/-- The floor of the base-two logarithm of a real not below a power of two. -/
theorem le_floor_log (r : ℝ) (k : ℤ) (h1 : (2 : ℝ) ^ k ≤ r) : k ≤ ⌊Real.log r * (1 / Real.log 2)⌋ := by
  have hl : 0 < Real.log 2 := Real.log_pos (by norm_num)
  rw [Int.le_floor, mul_one_div, le_div_iff₀ hl, ← Real.log_zpow]
  exact Real.log_le_log (by positivity) h1

/-- The reference's clipping at the reals. -/
theorem clip_int (k : ℤ) : min ((127 : ℝ) : EReal) (max ((-127 : ℝ) : EReal) ((k : ℝ) : EReal)) = (((min 127 (max (-127) k) : ℤ) : ℝ) : EReal) := by
  rw [← EReal.coe_strictMono.monotone.map_max, ← EReal.coe_strictMono.monotone.map_min]; push_cast; rfl

/-- THE EXPONENT: the kernel's word and the reference's number are the same whole number `k - 127`, with `k` from 2 to 254. -/
theorem exp_spec (v : EReal) : ∃ k : ℕ, 2 ≤ k ∧ k ≤ 254 ∧ expWord v = BitVec.ofNat 32 k - 127#32 ∧
    expRef v = ((((k : ℤ) - 127 : ℤ) : ℝ) : EReal) := by
  obtain ⟨n, en, hn, h1, h2⟩ := field_spec v
  refine ⟨expNat n, (expNat_bounds n).1, (expNat_bounds n).2, expWord_of_field v n hn en, ?_⟩
  have p1 : pw (BitVec.ofNat 32 1) = (((2 : ℝ) ^ (-126 : ℤ) : ℝ) : EReal) := by
    rw [pw_ofNat 1 (by omega)]; norm_num
  unfold expRef; rw [c127, c_127, c2]
  by_cases h0 : n = 0
  · subst h0
    have hv : v < Ideal.ofBits .f32 0x00800000#32 := by
      rcases h2 with h2 | h2
      · omega
      · rw [cmin, ← p1]; exact h2
    have hf : flush v = 0 := if_pos hv
    rw [if_pos hf, show (0 : EReal) = (((0 : ℤ) : ℝ) : EReal) by simp, clip_int]; norm_num [expNat]
  · have hge : pw (BitVec.ofNat 32 n) ≤ v := h1.resolve_left h0
    have hv : ¬ v < Ideal.ofBits .f32 0x00800000#32 := by
      rw [cmin, ← p1, not_lt]; exact (pw_le 1 n (by omega) hn).trans hge
    have hf : flush v = v := if_neg hv
    have hpos : 0 < v := lt_of_lt_of_le (by
      have := pw_lt 0 n (by omega) hn
      rwa [pw_ofNat 0 (by omega), if_neg (by omega), if_pos rfl] at this) hge
    rw [hf, if_neg hpos.ne']
    have hl2 : Ideal.log ((2 : ℝ) : EReal) = ((Real.log 2 : ℝ) : EReal) := if_neg (by norm_num)
    have hl : Real.log 2 ≠ 0 := (Real.log_pos (by norm_num)).ne'
    rw [hl2, Ideal.div_coe hl]
    induction v with
    | bot => exact absurd hpos (by simp)
    | top =>
      have hn5 : n = 255 := h2.resolve_right (by simp)
      subst hn5
      have : Ideal.log ⊤ * ((1 / Real.log 2 : ℝ) : EReal) = ⊤ := by
        show (⊤ : EReal) * _ = ⊤
        exact EReal.top_mul_coe_of_pos (one_div_pos.mpr (Real.log_pos (by norm_num)))
      rw [this, Ideal.liftRound_top, show (⊤ : EReal) + 1 = ⊤ from EReal.top_add_of_ne_bot (by exact_mod_cast EReal.coe_ne_bot 1), max_eq_right le_top,
        min_eq_left le_top]
      norm_num [expNat]
    | coe r =>
      have hr : 0 < r := by exact_mod_cast hpos
      have hn5 : n ≠ 255 := fun h => by
        subst h; rw [pw_ofNat 255 (by omega), if_pos rfl] at hge
        exact absurd hge (not_le.mpr (EReal.coe_lt_top r))
      rw [pw_ofNat n hn, if_neg hn5, if_neg h0, EReal.coe_le_coe_iff] at hge
      have hlog : Ideal.log ((r : ℝ) : EReal) = ((Real.log r : ℝ) : EReal) := if_neg (not_le.mpr hr)
      rw [hlog, ← EReal.coe_mul, Ideal.liftRound_coe]
      have hone : (((⌊Real.log r * (1 / Real.log 2)⌋ : ℤ) : ℝ) : EReal) + 1 = (((⌊Real.log r * (1 / Real.log 2)⌋ + 1 : ℤ) : ℝ) : EReal) := by
        push_cast; rfl
      rw [hone, clip_int]
      congr 2
      by_cases h4 : n = 254
      · have := le_floor_log r _ hge
        unfold expNat; rw [if_neg h0]; omega
      · have hlt : r < (2 : ℝ) ^ ((n : ℤ) - 127 + 1) := by
          have h2' := h2.resolve_left hn5
          rw [pw_ofNat (n + 1) (by omega), if_neg (by omega), if_neg (by omega), EReal.coe_lt_coe_iff] at h2'
          convert h2' using 2; push_cast; ring
        rw [floor_log r _ hge hlt]
        unfold expNat; rw [if_neg h0]; omega

/-- The power of two the elements are multiplied by. -/
theorem pw_neg (v : EReal) : pw (IntOp.subi 127#32 (expWord v)) = powRef (0 - expRef v) := by
  obtain ⟨k, h1, h2, hw, hr⟩ := exp_spec v
  have : IntOp.subi 127#32 (BitVec.ofNat 32 k - 127#32) = BitVec.ofNat 32 (254 - k) := by
    unfold IntOp.subi
    apply BitVec.eq_of_toNat_eq
    simp only [BitVec.toNat_sub, BitVec.toNat_ofNat]; omega
  rw [hw, hr, this, pw_eq_powRef _ (by omega)]
  congr 1
  rw [zero_sub, ← EReal.coe_neg]; congr 1
  have : (((254 - k : ℕ) : ℤ) - 127 : ℤ) = -((k : ℤ) - 127) := by omega
  rw [this]; push_cast; rfl

/-- The exponent word, biased. -/
theorem expWord_add (k : ℕ) : IntOp.addi (BitVec.ofNat 32 k - 127#32) 127#32 = BitVec.ofNat 32 k := by
  unfold IntOp.addi; exact BitVec.sub_add_cancel _ _

/-- The power of two of a group. -/
theorem pw_pos (v : EReal) : pw (IntOp.addi (expWord v) 127#32) = powRef (expRef v) := by
  obtain ⟨k, h1, h2, hw, hr⟩ := exp_spec v
  rw [hw, hr, expWord_add, pw_eq_powRef _ (by omega)]

/-- The scale byte of a group. -/
theorem byte_eq (v : EReal) : BitVec.setWidth 8 (field (pw (IntOp.addi (expWord v) 127#32)))
    = BitVec.setWidth 8 (Ideal.fptosi 32 (expRef v + Ideal.ofBits .f32 0x42FE0000#32)) := by
  obtain ⟨k, h1, h2, hw, hr⟩ := exp_spec v
  rw [hw, hr, expWord_add, field_pw _ (by omega), c127]
  congr 1
  rw [← EReal.coe_add, show ((((k : ℤ) - 127 : ℤ) : ℝ) + 127 : ℝ) = (((k : ℤ)) : ℝ) by push_cast; ring]
  unfold Ideal.fptosi
  rw [Ideal.toIntClamped_coe, Int.floor_intCast, Int.ceil_intCast, ite_self]
  have : max (-((2 ^ (32 - 1) : ℕ) : ℤ)) (min (((2 ^ (32 - 1) : ℕ) : ℤ) - 1) (k : ℤ)) = (k : ℤ) := by
    norm_num; omega
  rw [this, BitVec.ofInt_natCast]

/-- The power of two of a weight scale byte. -/
theorem pw_byte (b : BitVec 8) : pw (BitVec.setWidth 32 b) = powRef ((((BitVec.setWidth 32 b).toInt : ℝ) : EReal) - Ideal.ofBits .f32 0x42FE0000#32) := by
  have hb := b.isLt
  have e1 : BitVec.setWidth 32 b = BitVec.ofNat 32 b.toNat := by
    apply BitVec.eq_of_toNat_eq; simp
  have e2 : (BitVec.ofNat 32 b.toNat).toInt = (b.toNat : ℤ) := by
    rw [BitVec.toInt_eq_toNat_of_lt (by rw [BitVec.toNat_ofNat]; omega), BitVec.toNat_ofNat, Nat.mod_eq_of_lt (by omega)]
  rw [e1, e2, c127, ← EReal.coe_sub, pw_eq_powRef _ (by omega)]
  congr 2; push_cast; rfl

/-- A group's scale read back from its byte. -/
theorem powRef_byte (v : EReal) :
    powRef ((((BitVec.setWidth 32 (BitVec.setWidth 8 (Ideal.fptosi 32 (expRef v + Ideal.ofBits .f32 0x42FE0000#32)))).toInt : ℝ) : EReal)
      - Ideal.ofBits .f32 0x42FE0000#32) = powRef (expRef v) := by
  rw [← pw_byte, ← byte_eq, ← pw_pos]
  obtain ⟨k, h1, h2, hw, -⟩ := exp_spec v
  rw [hw, expWord_add, field_pw _ (by omega)]
  refine congrArg pw (BitVec.eq_of_toNat_eq ?_)
  simp only [BitVec.toNat_setWidth, BitVec.toNat_ofNat]
  omega

end Cert.Scale

end
-- ==== Proof.Spec.lean ====
module

public import proofs.«01_k».proof.Proof.Scale

@[expose] public section

noncomputable section

namespace Cert.Spec

open Idealize.ShloMosaic

/-! What the problem computes, entry by entry over the extended reals: the quantisation of `x` in groups of 32 and the scaled
matrix product, each stated with the reference's operations. -/

/-- Element `k` of group `g`, along the 8192 columns. -/
def at32 (g : Fin 256) (k : Fin 32) : Fin 8192 := ⟨32 * g.val + k.val, by omega⟩

/-- The group of a column. -/
def groupOf (k : Fin 8192) : Fin 256 := ⟨k.val / 32, by omega⟩

variable (x : Fin 8 → Fin 8192 → EReal)

/-- The largest magnitude of group `g` of row `t`. -/
def amax (t : Fin 8) (g : Fin 256) : EReal :=
  Finset.univ.fold max ⊥ (fun k : Fin 32 => max (x t (at32 g k)) (-x t (at32 g k)))

/-- The largest magnitude over 448. -/
def ratio (t : Fin 8) (g : Fin 256) : EReal := amax x t g * Ideal.ofBits .f32 0x3B124925#32

/-- The code of an element: itself over its group's scale, clipped to ±448. -/
def code (t : Fin 8) (k : Fin 8192) : EReal :=
  min (Ideal.ofBits .f32 0x43E00000#32) (max (Ideal.ofBits .f32 0xC3E00000#32)
    (x t k * Scale.powRef (0 - Scale.expRef (ratio x t (groupOf k)))))

/-- The scale of group `g` of row `t`. -/
def scale (t : Fin 8) (g : Fin 256) : EReal := Scale.powRef (Scale.expRef (ratio x t g))

/-- The scale's exponent, biased, as a byte. -/
def scaleByte (t : Fin 8) (g : Fin 256) : BitVec 8 :=
  BitVec.setWidth 8 (Ideal.fptosi 32 (Scale.expRef (ratio x t g) + Ideal.ofBits .f32 0x42FE0000#32))

/-- A weight group's scale from its byte. -/
def wscale (b : BitVec 8) : EReal := Scale.powRef ((((BitVec.setWidth 32 b).toInt : ℝ) : EReal) - Ideal.ofBits .f32 0x42FE0000#32)

/-- The contribution of group `g` to the product at row `t`, column `o`. -/
def term (w : Fin 2816 → Fin 8192 → EReal) (ws : Fin 2816 → Fin 256 → BitVec 8) (t : Fin 8) (o : Fin 2816) (g : Fin 256) : EReal :=
  (∑ k : Fin 32, code x t (at32 g k) * w o (at32 g k)) * scale x t g * wscale (ws o g)

/-- The product at row `t`, column `o`, with its bias. -/
def out (w : Fin 2816 → Fin 8192 → EReal) (ws : Fin 2816 → Fin 256 → BitVec 8) (b : Fin 2816 → EReal) (t : Fin 8) (o : Fin 2816) : EReal :=
  (∑ g : Fin 256, term x w ws t o g) + b o

/-- The largest magnitude is at most `c` when every magnitude of the group is. -/
theorem amax_le (t : Fin 8) (g : Fin 256) (c : EReal) :
    amax x t g ≤ c ↔ ∀ k : Fin 32, max (x t (at32 g k)) (-x t (at32 g k)) ≤ c := by
  unfold amax; rw [Finset.fold_max_le]
  exact ⟨fun h k => h.2 k (Finset.mem_univ k), fun h => ⟨bot_le, fun k _ => h k⟩⟩

/-- A group's scale is what its byte says. -/
theorem wscale_scaleByte (t : Fin 8) (g : Fin 256) : wscale (scaleByte x t g) = scale x t g := Scale.powRef_byte _

end Cert.Spec

end
-- ==== Proof.HeadValue.lean ====
module

public import Idealize.ShloMosaic.Lib.Pointwise
public import Idealize.ShloMosaic.Lib.Pipeline.ValueKit
public import proofs.«01_k».proof.Proof.HeadForm
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe

/-! What the quantiser computes at the reals, entry by entry: the largest magnitude of each lane group and the scale and codes
it gives. -/

/-- The entries of the staged `x`. -/
def ent (x : Vec Ideal S8x8192 .bf16) : Fin 8 → Fin 8192 → EReal := fun t k => x (ix2 t k)

/-- The row of `x` that row `r` of the stacked array comes from. -/
def rowAt (r : Fin 512) : Fin 8 := ⟨r.val % 8, Nat.mod_lt _ (by omega)⟩
/-- The column of `x` that lane `l` of row `r` of the stacked array comes from. -/
def colAt (r : Fin 512) (l : Fin 128) : Fin 8192 := ⟨128 * (r.val / 8) + l.val, by omega⟩

theorem pay2_apply (x : Vec Ideal S8x8192 .bf16) (i : S8x8192.Idx) : k0_pay2 x i = x i := by
  unfold k0_pay2
  simp only [shapeCast_self]
  pointwise

/-- The stacked array holds `x` in its new place. -/
theorem xsOf_apply (x : Vec Ideal S8x8192 .bf16) (r : Fin 512) (l : Fin 128) : xsOf x (ix2 r l) = ent x (rowAt r) (colAt r l) := by
  unfold xsOf
  refine (concatenate_ofFn_apply (t := S512x128) (s₁ := S8x128) 0 (fun j : Fin 64 => extractStridedSlice S8x128 ![0, 128 * j.val] (k0_pay2 x) (slices_cols j)) _ rfl 8 rfl
    (ix2 r l) ⟨r.val / 8, by omega⟩ rfl (ix2 (rowAt r) l) rfl
    (fun b hb => match b with | 0 => absurd rfl hb | 1 => rfl)).trans ?_
  rw [extractStridedSlice_apply, pay2_apply]
  · rfl
  · intro a
    match a with
    | 0 => exact (Nat.zero_add _).symm
    | 1 => rfl

theorem maxStep_apply (s up : BitVec 32) (v : FVec Ideal S512x128 .f32) (r : Fin 512) (l : Fin 128) :
    maxStep s up v (ix2 r l) = max (v (ix2 r l)) (Scalar.select (IntOp.cmpi .eq (IntOp.andi (BitVec.ofNat 32 l.val) s) 0#32)
      (v (ix2 r ⟨(l.val + 128 - up.toNat % 128) % 128, Nat.mod_lt _ (by omega)⟩))
      (v (ix2 r ⟨(l.val + 128 - s.toNat % 128) % 128, Nat.mod_lt _ (by omega)⟩))) := by
  pointwise [maxStep, laneOf]

/-- Over blocks of `n` lanes, `w`'s entries are the largest of `v`'s: at most `c` exactly when the block's are. -/
def MaxOver (n : ℕ) (v w : FVec Ideal S512x128 .f32) : Prop :=
  ∀ (r : Fin 512) (l : Fin 128) (c : EReal), w (ix2 r l) ≤ c ↔ ∀ l' : Fin 128, l'.val / n = l.val / n → v (ix2 r l') ≤ c

/-- The lane-number test of a step picks the even blocks. -/
theorem lane_even (k : Fin 5) (l : Fin 128) :
    IntOp.cmpi .eq (IntOp.andi (BitVec.ofNat 32 l.val) (BitVec.ofNat 32 (2 ^ k.val))) 0#32 = if l.val / 2 ^ k.val % 2 = 0 then 1#1 else 0#1 := by
  revert k l; decide +kernel

/-- Joining neighbouring blocks of `n` lanes. -/
theorem join_blocks (n : ℕ) (hn : 0 < n) (l p : ℕ) (hp : p / n / 2 = l / n / 2) (hne : p / n ≠ l / n) (l' : ℕ) :
    l' / (2 * n) = l / (2 * n) ↔ l' / n = l / n ∨ l' / n = p / n := by
  rw [Nat.mul_comm 2 n, ← Nat.div_div_eq_div_mul, ← Nat.div_div_eq_div_mul]
  omega

theorem up_pair (p q : ℕ) (h : p = q + 1) (he : q % 2 = 0) : p / 2 = q / 2 ∧ p ≠ q := by omega
theorem down_pair (p q : ℕ) (h : p = q - 1) (ho : ¬ q % 2 = 0) : p / 2 = q / 2 ∧ p ≠ q := by omega

/-- ONE STEP: the maximum with the neighbouring block doubles the blocks. -/
theorem maxOver_step (k : Fin 5) (v w : FVec Ideal S512x128 .f32) (h : MaxOver (2 ^ k.val) v w) :
    MaxOver (2 * 2 ^ k.val) v (maxStep (BitVec.ofNat 32 (2 ^ k.val)) (BitVec.ofNat 32 (128 - 2 ^ k.val)) w) := by
  have hs : ∀ k : Fin 5, (BitVec.ofNat 32 (2 ^ k.val)).toNat % 128 = 2 ^ k.val ∧ (BitVec.ofNat 32 (128 - 2 ^ k.val)).toNat % 128 = 128 - 2 ^ k.val := by
    decide +kernel
  have hpart : ∀ (k : Fin 5) (l : Fin 128), if l.val / 2 ^ k.val % 2 = 0 then
        (l.val + 128 - (128 - 2 ^ k.val)) % 128 / 2 ^ k.val = l.val / 2 ^ k.val + 1
      else (l.val + 128 - 2 ^ k.val) % 128 / 2 ^ k.val = l.val / 2 ^ k.val - 1 := by
    decide +kernel
  intro r l c
  have hl := hpart k l
  rw [maxStep_apply, lane_even, max_le_iff]
  simp only [(hs k).1, (hs k).2]
  split_ifs at hl ⊢ with he
  · rw [ValueIdx.select_one, h r l c, h r _ c]
    obtain ⟨g1, g2⟩ := up_pair _ _ hl he
    simp only [join_blocks _ (Nat.two_pow_pos k.val) l.val _ g1 g2]
    exact ⟨fun ⟨a, b⟩ l' h' => h'.elim (a l') (b l'), fun a => ⟨fun l' h' => a l' (Or.inl h'), fun l' h' => a l' (Or.inr h')⟩⟩
  · rw [ValueIdx.select_zero, h r l c, h r _ c]
    obtain ⟨g1, g2⟩ := down_pair _ _ hl he
    simp only [join_blocks _ (Nat.two_pow_pos k.val) l.val _ g1 g2]
    exact ⟨fun ⟨a, b⟩ l' h' => h'.elim (a l') (b l'), fun a => ⟨fun l' h' => a l' (Or.inl h'), fun l' h' => a l' (Or.inr h')⟩⟩

/-- After five steps each entry is the largest magnitude of its 32 lanes. -/
theorem amaxOf_max (X : FVec Ideal S512x128 .f32) : MaxOver 32 (absf X) (amaxOf X) := by
  have h0 : MaxOver (2 ^ (0 : Fin 5).val) (absf X) (absf X) := fun r l c =>
    ⟨fun a l' h' => by
      have : l' = l := Fin.ext (by simpa using h')
      rw [this]; exact a, fun a => a l rfl⟩
  exact maxOver_step 4 _ _ (maxOver_step 3 _ _ (maxOver_step 2 _ _ (maxOver_step 1 _ _ (maxOver_step 0 _ _ h0))))

/-- The group of `x` that lane `l` of row `r` belongs to. -/
def groupAt (r : Fin 512) (l : Fin 128) : Fin 256 := Spec.groupOf (colAt r l)

/-- The largest magnitude of each entry's group. -/
theorem amaxOf_apply (x : Vec Ideal S8x8192 .bf16) (r : Fin 512) (l : Fin 128) :
    amaxOf (xsOf x) (ix2 r l) = Spec.amax (ent x) (rowAt r) (groupAt r l) := by
  refine eq_of_forall_ge_iff fun c => ?_
  rw [amaxOf_max (xsOf x) r l c, Spec.amax_le]
  have habs : ∀ l' : Fin 128, absf (xsOf x) (ix2 r l') = max (ent x (rowAt r) (colAt r l')) (-ent x (rowAt r) (colAt r l')) := fun l' => by
    rw [← xsOf_apply]; rfl
  simp only [habs]
  constructor
  · intro h k
    have := h ⟨32 * (l.val / 32) + k.val, by omega⟩ (by show (32 * (l.val / 32) + k.val) / 32 = l.val / 32; omega)
    rwa [show colAt r ⟨32 * (l.val / 32) + k.val, by omega⟩ = Spec.at32 (groupAt r l) k from
      Fin.ext (show 128 * (r.val / 8) + (32 * (l.val / 32) + k.val) = 32 * ((128 * (r.val / 8) + l.val) / 32) + k.val by omega)] at this
  · intro h l' hl'
    have := h ⟨l'.val % 32, by omega⟩
    rwa [show Spec.at32 (groupAt r l) ⟨l'.val % 32, by omega⟩ = colAt r l' from
      Fin.ext (show 32 * ((128 * (r.val / 8) + l.val) / 32) + l'.val % 32 = 128 * (r.val / 8) + l'.val by omega)] at this

/-- The ratio of each entry's group. -/
theorem ratioOf_apply (x : Vec Ideal S8x8192 .bf16) (r : Fin 512) (l : Fin 128) :
    ratioOf (xsOf x) (ix2 r l) = Spec.ratio (ent x) (rowAt r) (groupAt r l) := by
  unfold Spec.ratio; rw [← amaxOf_apply]
  pointwise [ratioOf]

theorem fieldStep_apply {s : Shape} (v : FVec Ideal s .f32) (bit : BitVec 32) (f : IVec s 32) (i : s.Idx) :
    fieldStep v bit f i = Scale.step (v i) bit (f i) := by
  unfold Scale.step Scale.pw
  pointwise [fieldStep]

/-- The exponent field of every entry. -/
theorem fieldOf_apply {s : Shape} (v : FVec Ideal s .f32) (i : s.Idx) : fieldOf v i = Scale.field (v i) := by
  unfold fieldOf Scale.field
  simp only [fieldStep_apply]
  rfl

theorem expOf_apply (X : FVec Ideal S512x128 .f32) (i : S512x128.Idx) : expOf X i = Scale.expWord (ratioOf X i) := by
  unfold Scale.expWord; rw [← fieldOf_apply]
  pointwise [expOf]

/-- Every entry scaled and clipped is the code the reference gives it. -/
theorem scaledOf_apply (x : Vec Ideal S8x8192 .bf16) (r : Fin 512) (l : Fin 128) :
    scaledOf (xsOf x) (ix2 r l) = Spec.code (ent x) (rowAt r) (colAt r l) := by
  have e : Spec.code (ent x) (rowAt r) (colAt r l) = min (Ideal.ofBits .f32 0x43E00000#32) (max (Ideal.ofBits .f32 0xC3E00000#32)
      (xsOf x (ix2 r l) * Scale.pw (IntOp.subi 127#32 (expOf (xsOf x) (ix2 r l))))) := by
    rw [expOf_apply, ratioOf_apply, Scale.pw_neg, xsOf_apply]; rfl
  rw [e]; unfold Scale.pw
  pointwise [scaledOf]

/-- The power of two of every entry's group. -/
theorem sxOf_apply (x : Vec Ideal S8x8192 .bf16) (r : Fin 512) (l : Fin 128) :
    sxOf (xsOf x) (ix2 r l) = Scale.pw (IntOp.addi (Scale.expWord (Spec.ratio (ent x) (rowAt r) (groupAt r l))) 127#32) := by
  rw [← ratioOf_apply, ← expOf_apply]; unfold Scale.pw
  pointwise [sxOf]

end Cert.KernelIdeal.Hand

end
-- ==== Proof.HeadOut.lean ====
module

public import proofs.«01_k».proof.Proof.HeadValue

@[expose] public section

set_option maxRecDepth 16384

noncomputable section

namespace Cert.KernelIdeal.Hand

open Cert.KernelIdeal Cert.KernelIdeal.Gen
open Idealize.ShloMosaic Idealize.ShloMosaic.TcCoe

/-! What the quantiser leaves, at the reals: the left operands, the scale rows, the codes and the scale bytes. -/

theorem sxRow_apply (S : FVec Ideal S512x128 .f32) (g : Fin 256) (r : Fin 8) (l : Fin 128) :
    sxRow S g (ix2 r l) = S (ix2 ⟨8 * (g.val / 4) + r.val, by omega⟩ ⟨32 * (g.val % 4), by omega⟩) := by
  pointwise [sxRow]

/-- The power of two of group `g` of row `t`, as the kernel forms it. -/
def pwOf (x : Vec Ideal S8x8192 .bf16) (t : Fin 8) (g : Fin 256) : EReal :=
  Scale.pw (IntOp.addi (Scale.expWord (Spec.ratio (ent x) t g)) 127#32)

theorem pwOf_eq (x : Vec Ideal S8x8192 .bf16) (t : Fin 8) (g : Fin 256) : pwOf x t g = Spec.scale (ent x) t g := Scale.pw_pos _

/-- A group's row of the scale scratch holds the group's power of two for each row of `x`. -/
theorem sxRow_xs (x : Vec Ideal S8x8192 .bf16) (g : Fin 256) (t : Fin 8) (l : Fin 128) :
    sxRow (sxOf (xsOf x)) g (ix2 t l) = pwOf x t g := by
  rw [sxRow_apply, sxOf_apply, pwOf,
    show rowAt ⟨8 * (g.val / 4) + t.val, by omega⟩ = t from Fin.ext (show (8 * (g.val / 4) + t.val) % 8 = t.val by omega),
    show groupAt ⟨8 * (g.val / 4) + t.val, by omega⟩ ⟨32 * (g.val % 4), by omega⟩ = g from
      Fin.ext (show (128 * ((8 * (g.val / 4) + t.val) / 8) + 32 * (g.val % 4)) / 32 = g.val by omega)]

/-- The lane group of an entry is its lane over 32. -/
theorem groupOfLane_apply (r : Fin 8) (l : Fin 128) : groupOfLane (ix2 r l) = BitVec.ofNat 32 (l.val / 32) := by
  pointwise [groupOfLane, k0_pay105, k0_pay104, k0_pay103, k0_pay102, k0_pay101, laneOf]
  revert l
  decide +kernel

theorem eq_words : ∀ (l : Fin 128) (q : Fin 4), IntOp.cmpi .eq (BitVec.ofNat 32 (l.val / 32)) (BitVec.ofNat 32 q.val)
    = if l.val / 32 = q.val then 1#1 else 0#1 := by decide +kernel

theorem lhsPart_apply (S : FVec Ideal S512x128 .f32) (j : Fin 64) (q : Fin 4) (r : Fin 8) (l : Fin 128) :
    lhsPart S j (BitVec.ofNat 32 q.val) (ix2 r l) = if l.val / 32 = q.val then S (ix2 ⟨8 * j.val + r.val, by omega⟩ l) else 0 := by
  pointwise [lhsPart]
  rw [groupOfLane_apply, eq_words]
  split_ifs
  · rw [ValueIdx.select_one]
  · rw [ValueIdx.select_zero]

/-- Row `r` of row block `j`'s left operand holds the scaled row in the lanes of group `r / 8`, zero elsewhere. -/
theorem lhsRow_apply (S : FVec Ideal S512x128 .f32) (j : Fin 64) (r : Fin 32) (l : Fin 128) :
    lhsRow S j (ix3 0 r l) = if l.val / 32 = r.val / 8 then S (ix2 ⟨8 * j.val + r.val % 8, by omega⟩ l) else 0 := by
  pointwise [lhsRow]
  have h0 := lhsPart_apply S j 0
  have h1 := lhsPart_apply S j 1
  have h2 := lhsPart_apply S j 2
  have h3 := lhsPart_apply S j 3
  simp only [Fin.val_zero, Fin.val_one, Fin.val_two, show (3 : Fin 4).val = 3 from rfl] at h0 h1 h2 h3
  have key : ∀ (q r' : ℕ) (hr' : r' < 8), r.val = 8 * q + r' →
      (if l.val / 32 = q then S (ix2 ⟨8 * j.val + r', by omega⟩ l) else 0)
        = if l.val / 32 = r.val / 8 then S (ix2 ⟨8 * j.val + r.val % 8, by omega⟩ l) else 0 := fun q r' hr' e => by
    have e1 : r.val / 8 = q := by omega
    have e2 : r.val % 8 = r' := by omega
    simp only [e1, e2]
  by_cases c0 : r.val < 8
  · rw [dif_pos c0, h0]; exact key 0 _ c0 (by omega)
  rw [dif_neg c0]
  by_cases c1 : r.val - 8 < 8
  · rw [dif_pos c1, h1]; exact key 1 _ c1 (by omega)
  rw [dif_neg c1]
  by_cases c2 : r.val - 8 - 8 < 8
  · rw [dif_pos c2, h2]; exact key 2 _ c2 (by omega)
  · rw [dif_neg c2, h3]; exact key 3 (r.val - 8 - 8 - 8) (by omega) (by omega)

theorem codesOf_apply (S : FVec Ideal S512x128 .f32) (t : Fin 8) (k : Fin 8192) :
    codesOf S (ix2 t k) = S (ix2 ⟨8 * (k.val / 128) + t.val, by omega⟩ ⟨k.val % 128, by omega⟩) := by
  have tr : ∀ v : FVec Ideal S8x8192 .f32, truncf .fp8e4m3 v bitsLt_fp8e4m3_f32 (ix2 t k) = v (ix2 t k) := fun v => by pointwise
  unfold codesOf
  rw [tr]
  refine (concatenate_ofFn_apply (t := S8x8192) (s₁ := S8x128) 1 (fun j : Fin 64 => extractStridedSlice S8x128 ![8 * j.val, 0] S (slices_rows j)) _ rfl 128 rfl
    (ix2 t k) ⟨k.val / 128, by omega⟩ rfl (ix2 t ⟨k.val % 128, by omega⟩) rfl
    (fun b hb => match b with | 0 => rfl | 1 => absurd rfl hb)).trans ?_
  pointwise

/-- THE CODES are the reference's. -/
theorem codes_xs (x : Vec Ideal S8x8192 .bf16) (t : Fin 8) (k : Fin 8192) :
    codesOf (scaledOf (xsOf x)) (ix2 t k) = Spec.code (ent x) t k := by
  rw [codesOf_apply, scaledOf_apply,
    show rowAt ⟨8 * (k.val / 128) + t.val, by omega⟩ = t from Fin.ext (show (8 * (k.val / 128) + t.val) % 8 = t.val by omega),
    show colAt ⟨8 * (k.val / 128) + t.val, by omega⟩ ⟨k.val % 128, by omega⟩ = k from
      Fin.ext (show 128 * ((8 * (k.val / 128) + t.val) / 8) + k.val % 128 = k.val by omega)]

theorem eq_lanes (l : Fin 128) (n : ℕ) (hn : n < 128) : IntOp.cmpi .eq (BitVec.ofNat 32 l.val) (BitVec.ofNat 32 n) = if l.val = n then 1#1 else 0#1 := by
  have : ∀ l n : Fin 128, IntOp.cmpi .eq (BitVec.ofNat 32 l.val) (BitVec.ofNat 32 n.val) = if l.val = n.val then 1#1 else 0#1 := by decide +kernel
  exact this l ⟨n, hn⟩

/-- Lane `l` of the packed scales holds the power of two of group `base + l`. -/
theorem packOf_apply (x : Vec Ideal S8x8192 .bf16) (base : ℕ) (t : Fin 8) (l : Fin 128) : ∀ (n : ℕ) (h : base + n ≤ 256) (_ : n ≤ 128),
    l.val < n → ∀ hl : base + l.val < 256, packOf (sxOf (xsOf x)) base n h (ix2 t l) = pwOf x t ⟨base + l.val, hl⟩
  | 0, _, _, hl, _ => absurd hl (Nat.not_lt_zero _)
  | n + 1, h, hn, hl, hb => by
    pointwise [packOf, k0_pay106, laneOf]
    rw [eq_lanes l n (by omega)]
    split_ifs with he
    · rw [ValueIdx.select_one, sxRow_xs]; simp only [he]
    · rw [ValueIdx.select_zero]; exact packOf_apply x base t l n _ (by omega) (by omega) hb

/-- THE SCALE BYTES are the reference's. -/
theorem scales_xs (x : Vec Ideal S8x8192 .bf16) (t : Fin 8) (g : Fin 256) :
    scalesOf (sxOf (xsOf x)) (ix2 t g) = Spec.scaleByte (ent x) t g := by
  unfold Spec.scaleByte; rw [← Scale.byte_eq]
  pointwise [scalesOf]
  simp only [fieldOf_apply]
  pointwise
  by_cases hc : g.val < 128
  · rw [dif_pos hc, packOf_apply x 0 t _ 128 _ le_rfl hc (by omega)]
    simp only [Nat.zero_add]; rfl
  · rw [dif_neg hc, packOf_apply x 128 t _ 128 _ le_rfl (by show g.val - 128 < 128; omega) (by show 128 + (g.val - 128) < 256; omega)]
    have e : (⟨128 + (g.val - 128), by omega⟩ : Fin 256) = g := Fin.ext (show 128 + (g.val - 128) = g.val by omega)
    simp only [e]; rfl

end Cert.KernelIdeal.Hand

end
-- ==== Proof.BodyValue.lean ====
module

public import proofs.«01_k».proof.Proof.HeadOut
public import proofs.«01_k».proof.Proof.Scratch

@[expose] public section

set_option maxRecDepth 16384

noncomputable section

namespace Cert.KernelIdeal.Hand

open Cert.KernelIdeal Cert.KernelIdeal.Gen
open Idealize.ShloMosaic Idealize.ShloMosaic.TcCoe

/-! What the body computes at the reals: the output block as the sum over the groups of each group's product, scaled. -/

theorem termOf_apply (A : FVec Ideal S64x256 .f32) (p : Fin 8) (r : Vec Ideal S1x8x128 .f32) (t : Vec Ideal S1x256 .f32) (u : Fin 8) (v : Fin 256)
    (ρ : EReal) (hr : ∀ l : Fin 128, r (ix3 0 u l) = ρ) :
    termOf A p r t (ix2 u v) = A (ix2 ⟨8 * p.val + u.val, by omega⟩ v) * ρ * t (ix2 0 v) := by
  pointwise [termOf]
  simp only [hr, dite_eq_ite, ite_self]

theorem zeros_apply (i : S32x128.Idx) : (k0_pay903 (F := Ideal)) i = 0 := by
  pointwise [k0_pay903]
  simp [Ideal.ofBits, Ideal.e4m3fn]

theorem tile_apply (a b : Vec Ideal S1x32x128 .fp8e4m3) (w : Vec Ideal S256x256 .fp8e4m3) (u : Fin 64) (v : Fin 256) :
    k0_pay904 a b w (ix2 u v) =
      ∑ x : Fin 128, (if h : u.val < 32 then a (ix3 0 ⟨u.val, h⟩ x) else 0) * w (ix2 v ⟨x.val, by omega⟩)
      + ∑ x : Fin 128, (if h : u.val < 32 then 0 else b (ix3 0 ⟨u.val - 32, by omega⟩ x)) * w (ix2 v ⟨128 + x.val, by omega⟩) := by
  pointwise [k0_pay904]
  simp only [zeros_apply]

/-- A sum over the lanes of one lane group. -/
theorem lanes_sum (f : Fin 128 → EReal) (q : Fin 4) :
    ∑ x : Fin 128, (if x.val / 32 = q.val then f x else 0) = ∑ k : Fin 32, f ⟨32 * q.val + k.val, by omega⟩ := by
  rw [← Finset.sum_filter]
  refine (Finset.sum_bij (fun (k : Fin 32) _ => (⟨32 * q.val + k.val, by omega⟩ : Fin 128)) ?_ ?_ ?_ ?_).symm
  · intro k _; exact Finset.mem_filter.mpr ⟨Finset.mem_univ _, by show (32 * q.val + k.val) / 32 = q.val; omega⟩
  · intro k _ k' _ h
    have := congrArg Fin.val h
    exact Fin.ext (by simp only at this; omega)
  · intro x hx
    have hx' := (Finset.mem_filter.mp hx).2
    exact ⟨⟨x.val % 32, by omega⟩, Finset.mem_univ _, Fin.ext (by show 32 * q.val + x.val % 32 = x.val; omega)⟩
  · intro k _; rfl

/-- One lane group's share of a row of a tile's product. -/
theorem lhs_sum (S : FVec Ideal S512x128 .f32) (j : Fin 64) (q : Fin 4) (u : Fin 8) (f : Fin 128 → EReal) :
    ∑ x : Fin 128, lhsRow S j (ix3 0 ⟨8 * q.val + u.val, by omega⟩ x) * f x
      = ∑ k : Fin 32, S (ix2 ⟨8 * j.val + u.val, by omega⟩ ⟨32 * q.val + k.val, by omega⟩) * f ⟨32 * q.val + k.val, by omega⟩ := by
  rw [← lanes_sum (fun x => S (ix2 ⟨8 * j.val + u.val, by omega⟩ x) * f x) q]
  refine Finset.sum_congr rfl fun x _ => ?_
  rw [lhsRow_apply]
  have e1 : (8 * q.val + u.val) / 8 = q.val := by omega
  have e2 : (8 * q.val + u.val) % 8 = u.val := by omega
  simp only [e1, e2]
  split_ifs
  · rfl
  · exact zero_mul _

/-- Group `g`'s rows of its tile's product: the products of the group's elements with the weights. -/
theorem group_apply (S : FVec Ideal S512x128 .f32) (w : Vec Ideal S256x256 .fp8e4m3) (g : ℕ) (hg : g < 256) (u : Fin 8) (v : Fin 256) :
    k0_pay904 (lhsRow S ⟨2 * (g / 8), by omega⟩) (lhsRow S ⟨2 * (g / 8) + 1, by omega⟩) w (ix2 ⟨8 * (g % 8) + u.val, by omega⟩ v)
      = ∑ k : Fin 32, S (ix2 ⟨8 * (g / 4) + u.val, by omega⟩ ⟨32 * (g % 4) + k.val, by omega⟩) * w (ix2 v ⟨32 * (g % 8) + k.val, by omega⟩) := by
  rw [tile_apply]
  by_cases hc : g % 8 < 4
  · have hlt : 8 * (g % 8) + u.val < 32 := by omega
    simp only [hlt, dif_pos, zero_mul, Finset.sum_const_zero, add_zero]
    refine (lhs_sum S ⟨2 * (g / 8), by omega⟩ ⟨g % 8, hc⟩ u fun x => w (ix2 v ⟨x.val, by omega⟩)).trans ?_
    have e1 : 2 * (g / 8) = g / 4 := by omega
    have e2 : g % 8 = g % 4 := by omega
    simp only [e1, e2]
  · have hlt : ¬ 8 * (g % 8) + u.val < 32 := by omega
    simp only [hlt, dif_neg, not_false_eq_true, zero_mul, Finset.sum_const_zero, zero_add]
    have e0 : 8 * (g % 8) + u.val - 32 = 8 * (g % 8 - 4) + u.val := by omega
    simp only [e0]
    refine (lhs_sum S ⟨2 * (g / 8) + 1, by omega⟩ ⟨g % 8 - 4, by omega⟩ u fun x => w (ix2 v ⟨128 + x.val, by omega⟩)).trans ?_
    have e1 : 2 * (g / 8) + 1 = g / 4 := by omega
    have e2 : g % 8 - 4 = g % 4 := by omega
    have e3 : ∀ k : Fin 32, 128 + (32 * (g % 4) + k.val) = 32 * (g % 8) + k.val := fun k => by omega
    simp only [e1, e2, e3]

/-- The chain's sum after `n` groups. -/
theorem chain_apply (S : FVec Ideal S512x128 .f32) (w : Fin 32 → Vec Ideal S256x256 .fp8e4m3) (r : Fin 256 → Vec Ideal S1x8x128 .f32)
    (t : Fin 256 → Vec Ideal S1x256 .f32) (ρ : Fin 256 → EReal) (u : Fin 8) (v : Fin 256) (hr : ∀ g (l : Fin 128), r g (ix3 0 u l) = ρ g) :
    ∀ (n : ℕ) (h : n ≤ 256), chainOf (lhsRow S) w r t n h (ix2 u v) = ∑ g : Fin n,
      (∑ k : Fin 32, S (ix2 ⟨8 * (g.val / 4) + u.val, by omega⟩ ⟨32 * (g.val % 4) + k.val, by omega⟩)
        * w ⟨g.val / 8, by omega⟩ (ix2 v ⟨32 * (g.val % 8) + k.val, by omega⟩)) * ρ ⟨g.val, by omega⟩ * t ⟨g.val, by omega⟩ (ix2 0 v)
  | 0, _ => by
    pointwise [chainOf]
    exact Fin.sum_univ_zero _ |>.symm
  | n + 1, h => by
    rw [Fin.sum_univ_castSucc]
    pointwise [chainOf]
    rw [chain_apply S w r t ρ u v hr n (Nat.le_of_succ_le h), termOf_apply _ _ _ _ u v (ρ ⟨n, h⟩) (hr _)]
    congr 1
    exact congrArg (fun e => e * ρ ⟨n, h⟩ * t ⟨n, h⟩ (ix2 0 v)) (group_apply S _ n (by omega) u v)

theorem pay1_apply (X : FVec Ideal S8x256 .f32) (x3 : Vec Ideal S1x256 .f32) (u : Fin 8) (v : Fin 256) :
    k0_pay1 X (k0_pay1059 x3) (ix2 u v) = X (ix2 u v) + x3 (ix2 0 v) := by
  pointwise [k0_pay1, k0_pay1059]

theorem ld_tile (x1 : Vec Ideal S256x8192 .fp8e4m3) (c : Fin 32) (u : Fin 256) (v : Fin 256) :
    (View.ld x1 (rect2 c) : Vec Ideal S256x256 .fp8e4m3) (ix2 u v) = x1 (ix2 u ⟨256 * c.val + v.val, by omega⟩) := by
  pointwise [View.ld]

/-- A weight group's scale from its byte, read from the transposed scales. -/
theorem ld_wscale (x2 : Vec Ideal S256x256 .i8) (g : Fin 256) (v : Fin 256) :
    (View.ld (k0_pay902 (F := Ideal) x2) (rect10 g) : Vec Ideal S1x256 .f32) (ix2 0 v) = Spec.wscale (x2 (ix2 v g)) := by
  rw [Spec.wscale, ← Scale.pw_byte, Scale.pw]
  pointwise [View.ld, k0_pay902]

theorem ld_sx_apply (x : Vec Ideal S8x8192 .bf16) (g : Fin 256) (u : Fin 8) (l : Fin 128) :
    (View.ld (sxAll (sxOf (xsOf x))) (rect9 g) : Vec Ideal S1x8x128 .f32) (ix3 0 u l) = Spec.scale (ent x) u g := by
  rw [← pwOf_eq, ← sxRow_xs x g u l, ld_sx]
  pointwise

/-- The whole chain with its bias. -/
theorem pay_chain (S : FVec Ideal S512x128 .f32) (w : Fin 32 → Vec Ideal S256x256 .fp8e4m3) (r : Fin 256 → Vec Ideal S1x8x128 .f32)
    (t : Fin 256 → Vec Ideal S1x256 .f32) (x3 : Vec Ideal S1x256 .f32) (ρ : Fin 256 → EReal) (u : Fin 8) (v : Fin 256)
    (hr : ∀ g (l : Fin 128), r g (ix3 0 u l) = ρ g) (N : ℕ) (h : N ≤ 256) :
    k0_pay1 (chainOf (lhsRow S) w r t N h) (k0_pay1059 x3) (ix2 u v) = (∑ g : Fin N,
      (∑ k : Fin 32, S (ix2 ⟨8 * (g.val / 4) + u.val, by omega⟩ ⟨32 * (g.val % 4) + k.val, by omega⟩)
        * w ⟨g.val / 8, by omega⟩ (ix2 v ⟨32 * (g.val % 8) + k.val, by omega⟩)) * ρ ⟨g.val, by omega⟩ * t ⟨g.val, by omega⟩ (ix2 0 v))
      + x3 (ix2 0 v) := by
  rw [pay1_apply, chain_apply S w r t ρ u v hr N h]

/-- THE OUTPUT BLOCK: at row `u` and the block's column `v`, the sum over the groups, with the bias. -/
theorem yOf_apply (x : Vec Ideal S8x8192 .bf16) (x1 : Vec Ideal S256x8192 .fp8e4m3) (x2 : Vec Ideal S256x256 .i8) (x3 : Vec Ideal S1x256 .f32)
    (u : Fin 8) (v : Fin 256) :
    yOf (lhsAll (scaledOf (xsOf x))) (sxAll (sxOf (xsOf x))) x1 x2 x3 (ix2 u v)
      = (∑ g : Fin 256, (∑ k : Fin 32, Spec.code (ent x) u (Spec.at32 g k) * x1 (ix2 v (Spec.at32 g k)))
          * Spec.scale (ent x) u g * Spec.wscale (x2 (ix2 v g))) + x3 (ix2 0 v) := by
  unfold yOf
  simp only [ld_lhs]
  refine (pay_chain (scaledOf (xsOf x)) _ _ _ x3 (fun g => Spec.scale (ent x) u g) u v (fun g l => ld_sx_apply x g u l) 256 _).trans ?_
  refine congrArg (· + x3 (ix2 0 v)) ?_
  refine Finset.sum_congr rfl fun g _ => ?_
  rw [ld_wscale]
  refine congrArg (fun e => e * Spec.scale (ent x) u g * Spec.wscale (x2 (ix2 v g))) ?_
  refine Finset.sum_congr rfl fun k _ => ?_
  rw [scaledOf_apply, ld_tile,
    show rowAt ⟨8 * (g.val / 4) + u.val, by omega⟩ = u from Fin.ext (show (8 * (g.val / 4) + u.val) % 8 = u.val by omega),
    show colAt ⟨8 * (g.val / 4) + u.val, by omega⟩ ⟨32 * (g.val % 4) + k.val, by omega⟩ = Spec.at32 g k from
      Fin.ext (show 128 * ((8 * (g.val / 4) + u.val) / 8) + (32 * (g.val % 4) + k.val) = 32 * g.val + k.val by omega)]
  have e : 256 * (g.val / 8) + (32 * (g.val % 8) + k.val) = 32 * g.val + k.val := by omega
  simp only [e]; rfl

end Cert.KernelIdeal.Hand

end
-- ==== Proof.KernelValue.lean ====
module

public import Idealize.ShloMosaic.Lib.Pipeline.ValueKit
public import Idealize.ShloMosaic.Lib.Claim
public import Idealize.ShloMosaic.Lib.Pointwise
public import proofs.«01_k».proof.Proof.Run
public import proofs.«01_k».proof.Proof.BodyValue

@[expose] public section

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable (m : (ℓ : Loc nD τ sig) → Buf (Elt Ideal) ℓ) (ρ : Dev nD → PrngReg)

/-! What the kernel's three result arrays hold at the end, at the reals, entry by entry. -/

/-- The argument arrays' entries. -/
def xIn (c : Dev nD) : Fin 8 → Fin 8192 → EReal := fun t k => m ((c : Thread nD τ).loc main_arg0) (ix3 t (0 : Fin 1) k)
def wIn (c : Dev nD) : Fin 2816 → Fin 8192 → EReal := fun o k => m ((c : Thread nD τ).loc main_arg1) (ix2 o k)
def sIn (c : Dev nD) : Fin 2816 → Fin 256 → BitVec 8 := fun o g => m ((c : Thread nD τ).loc main_arg2) (ix2 o g)
def bIn (c : Dev nD) : Fin 2816 → EReal := fun o => m ((c : Thread nD τ).loc main_arg3) (ix1 o)

/-- The place of each window's block at each grid point. -/
theorem idx : ∀ t : Fin cfg0.N, win0_0.index t = ![0, 0] ∧ win0_1.index t = ![t.val, 0] ∧ win0_2.index t = ![t.val, 0]
    ∧ win0_3.index t = ![0, t.val] ∧ win0_4.index t = ![0, t.val] ∧ win0_5.index t = ![0, 0] ∧ win0_6.index t = ![0, 0] := by
  decide +kernel

/-- The staged `x` is the argument, its unit axis dropped. -/
theorem ent_xAt (c : Dev nD) : ent (xAt m c) = xIn m c := by
  funext t k
  unfold ent xAt xIn
  obtain ⟨e0, -, -, -, -, -, -⟩ := idx t0_0
  have h0 : (win0_0.blk t0_0).view.emb (ix2 t k) = (ix2 t k : S8x8192.Idx) := by blk_ext [e0]
  blk_simp [iblk]
  rw [h0]
  entry_read
  pointwise

/-- The weight block of a grid point. -/
theorem w_block (c : Dev nD) (t : Fin cfg0.N) (v : Fin 256) (k : Fin 8192) (h : 256 * t.val + v.val < 2816) :
    (iblk m c 1 t : Vec Ideal S256x8192 .fp8e4m3) (ix2 v k) = wIn m c ⟨256 * t.val + v.val, h⟩ k := by
  unfold wIn
  obtain ⟨-, e1, -, -, -, -, -⟩ := idx t
  blk_ext [iblk, V, e1]

theorem s_block (c : Dev nD) (t : Fin cfg0.N) (v : Fin 256) (g : Fin 256) (h : 256 * t.val + v.val < 2816) :
    (iblk m c 2 t : Vec Ideal S256x256 .i8) (ix2 v g) = sIn m c ⟨256 * t.val + v.val, h⟩ g := by
  unfold sIn
  obtain ⟨-, -, e2, -, -, -, -⟩ := idx t
  blk_ext [iblk, V, e2]

theorem b_block (c : Dev nD) (t : Fin cfg0.N) (v : Fin 256) (h : 256 * t.val + v.val < 2816) :
    (iblk m c 3 t : Vec Ideal S1x256 .f32) (ix2 0 v) = bIn m c ⟨256 * t.val + v.val, h⟩ := by
  unfold bIn
  obtain ⟨-, -, -, e3, -, -, -⟩ := idx t
  have h0 : (win0_3.blk t).view.emb (ix2 0 v) = (ix2 0 ⟨256 * t.val + v.val, h⟩ : S1x2816.Idx) := by blk_ext [e3]
  blk_simp [iblk]
  rw [h0]
  entry_read
  pointwise

/-- The first result: every grid point writes 256 columns of it. -/
theorem final4 (c : Dev nD) : (dats m 0 c).arrAt 4 cfg0.N = fun i : S8x2816.Idx => Spec.out (xIn m c) (wIn m c) (sIn m c) (bIn m c) (i 0) (i 1) := by
  refine (dats m 0 c).arrAt_eq_of_covers 4 _ (by decide +kernel) fun t hf y => ?_
  obtain ⟨-, -, -, -, e4, -, -⟩ := idx t
  blk_simp
  rw [after0_4]
  obtain ⟨u, v, rfl⟩ : ∃ (u : Fin 8) (v : Fin 256), y = ix2 u v := ⟨y 0, y 1, (ix2_eta y).symm⟩
  have hv : 256 * t.val + v.val < 2816 := by
    have h1 : t.val < cfg0.N := t.isLt
    have h2 : cfg0.N = 11 := N_0
    omega
  have h0 : (win0_4.blk t).view.emb (ix2 u v) = (ix2 u ⟨256 * t.val + v.val, hv⟩ : S8x2816.Idx) := by
    blk_ext [e4]
  refine (yOf_apply (xAt m c) _ _ _ u v).trans ?_
  rw [h0, ent_xAt]
  unfold Spec.out Spec.term
  refine congrArg₂ (fun a b : EReal => a + b) (Finset.sum_congr rfl fun g _ => ?_) (b_block m c t v hv)
  rw [s_block m c t v g hv]
  refine congrArg (fun e : EReal => e * _ * _) (Finset.sum_congr rfl fun k _ => ?_)
  rw [w_block m c t v _ hv]
  rfl

/-- The second result, the codes. -/
theorem final5 (c : Dev nD) : (dats m 0 c).arrAt 5 cfg0.N = fun i : S8x8192.Idx => Spec.code (xIn m c) (i 0) (i 1) := by
  refine (dats m 0 c).arrAt_eq_of_covers 5 _ (by decide +kernel) fun t hf y => ?_
  obtain ⟨-, -, -, -, -, e5, -⟩ := idx t
  blk_simp
  rw [after0_5]
  obtain ⟨u, v, rfl⟩ : ∃ (u : Fin 8) (v : Fin 8192), y = ix2 u v := ⟨y 0, y 1, (ix2_eta y).symm⟩
  have h0 : (win0_5.blk t).view.emb (ix2 u v) = (ix2 u v : S8x8192.Idx) := by blk_ext [e5]
  rw [h0]
  refine (codes_xs (xAt m c) u v).trans ?_
  rw [ent_xAt]
  rfl

/-- The third result, the scale bytes. -/
theorem final6 (c : Dev nD) : (dats m 0 c).arrAt 6 cfg0.N = fun i : S8x256.Idx => Spec.scaleByte (xIn m c) (i 0) (i 1) := by
  refine (dats m 0 c).arrAt_eq_of_covers 6 _ (by decide +kernel) fun t hf y => ?_
  obtain ⟨-, -, -, -, -, -, e6⟩ := idx t
  blk_simp
  rw [after0_6]
  obtain ⟨u, v, rfl⟩ : ∃ (u : Fin 8) (v : Fin 256), y = ix2 u v := ⟨y 0, y 1, (ix2_eta y).symm⟩
  have h0 : (win0_6.blk t).view.emb (ix2 u v) = (ix2 u v : S8x256.Idx) := by blk_ext [e6]
  rw [h0]
  refine (scales_xs (xAt m c) u v).trans ?_
  rw [ent_xAt]
  rfl

/-- The run: the three results as the specification's arrays, the arguments unchanged. -/
theorem run : θ_run defs (onTc (τ := τ) (main (F := Ideal))) ⟨m, fun _ => 0, ρ⟩ fun r => ∀ c : Dev nD,
      r.2.mem ((c.tc : Thread nD τ).loc main_v2_0) = (fun i : S8x2816.Idx => Spec.out (xIn m c) (wIn m c) (sIn m c) (bIn m c) (i 0) (i 1))
      ∧ r.2.mem ((c.tc : Thread nD τ).loc main_v2_1) = (fun i : S8x8192.Idx => Spec.code (xIn m c) (i 0) (i 1))
      ∧ r.2.mem ((c.tc : Thread nD τ).loc main_v2_2) = (fun i : S8x256.Idx => Spec.scaleByte (xIn m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final4 m c), ((h c).1 5).trans (final5 m c), ((h c).1 6).trans (final6 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩) (run_main m ρ)

end Cert.KernelIdeal.Hand

end
-- ==== Proof.ReferenceValue.lean ====
module

public import Idealize.ShloMosaic.Lib.Pipeline.ValueKit
public import Idealize.ShloMosaic.Lib.Claim
public import Idealize.ShloMosaic.Lib.Pointwise
public import proofs.«01_k».proof.Proof.Gen.ReferenceIdeal.Frame
public import proofs.«01_k».proof.Proof.Spec

@[expose] public section

set_option maxRecDepth 16384

noncomputable section

namespace Cert.ReferenceIdeal.Hand

open Cert.ReferenceIdeal Cert.ReferenceIdeal.Gen
open Idealize.ShloMosaic Idealize.ShloMosaic.TcCoe
open Idealize.SL.Sem

/-! What each value of the reference holds, at the reals, entry by entry. -/

/-- The entries of an 8×8192 array. -/
def ent (x : Vec Ideal S8x8192 .bf16) : Fin 8 → Fin 8192 → EReal := fun t k => x (ix2 t k)

variable (x : Vec Ideal S8x8192 .bf16)

theorem blocks_apply (t : Fin 8) (g : Fin 256) (k : Fin 32) :
    k0_pay2 (F := Ideal) x (ix3 t g k) = ent x t (Spec.at32 g k) := by
  unfold ent
  pointwise [k0_pay2]
  exact congrArg (fun e => x (ix2 t e)) (Fin.ext (by show g.val * 32 + k.val = 32 * g.val + k.val; omega))

/-- The largest magnitude of a group. -/
theorem amax_apply (t : Fin 8) (g : Fin 256) :
    Finset.fold max (Ideal.ofBits .f32 0xFF800000#32) (fun k : Fin 32 => FloatOps.absf (k0_pay2 (F := Ideal) x (ix3 t g k))) Finset.univ
      = Spec.amax (ent x) t g := by
  unfold Spec.amax
  rw [Scale.cninf]
  refine congrArg (fun f => Finset.fold max ⊥ f Finset.univ) (funext fun k => ?_)
  rw [blocks_apply]
  rfl

/-- The exponent of a group. -/
theorem exponent_apply (t : Fin 8) (g : Fin 256) :
    k0_pay3 (F := Ideal) x (ix3 t g 0) = Scale.expRef (Spec.ratio (ent x) t g) := by
  unfold Spec.ratio
  rw [← amax_apply]
  pointwise [k0_pay3]
  rfl

/-- An element over its group's scale. -/
theorem scaled_apply (t : Fin 8) (g : Fin 256) (k : Fin 32) :
    k0_pay4 (F := Ideal) x (ix3 t g k) = ent x t (Spec.at32 g k) * Scale.powRef (0 - Scale.expRef (Spec.ratio (ent x) t g)) := by
  rw [← exponent_apply, ← blocks_apply]
  pointwise [k0_pay4]
  rfl

theorem groupOf_at32 (g : Fin 256) (k : Fin 32) : Spec.groupOf (Spec.at32 g k) = g :=
  Fin.ext (by show (32 * g.val + k.val) / 32 = g.val; omega)

/-- The bounds of the codes. -/
abbrev lo : EReal := Ideal.ofBits .f32 0xC3E00000#32
abbrev hi : EReal := Ideal.ofBits .f32 0x43E00000#32

/-- The code of an element, in blocks. -/
theorem code3_apply (t : Fin 8) (g : Fin 256) (k : Fin 32) :
    k0_pay5 (F := Ideal) (k0_pay4 x) lo hi (ix3 t g k) = Spec.code (ent x) t (Spec.at32 g k) := by
  unfold Spec.code
  rw [groupOf_at32, ← scaled_apply]
  pointwise [k0_pay5]

/-- The code of an element. -/
theorem codes_apply (t : Fin 8) (k : Fin 8192) :
    k0_pay6 (F := Ideal) (k0_pay4 x) lo hi (ix2 t k) = Spec.code (ent x) t k := by
  obtain ⟨g, j, rfl⟩ : ∃ (g : Fin 256) (j : Fin 32), k = Spec.at32 g j :=
    ⟨Spec.groupOf k, ⟨k.val % 32, Nat.mod_lt _ (by decide)⟩, Fin.ext (by show k.val = 32 * (k.val / 32) + k.val % 32; omega)⟩
  rw [← code3_apply]
  pointwise [k0_pay6]
  refine congrArg₂ (fun a c => k0_pay5 (F := Ideal) (k0_pay4 x) lo hi (ix3 t a c)) (groupOf_at32 g j) (Fin.ext ?_)
  show (32 * g.val + j.val) % 32 = j.val
  omega

/-- The scale byte of a group. -/
theorem bytes_apply (t : Fin 8) (g : Fin 256) :
    k0_pay7 (F := Ideal) (k0_pay3 x) (ix2 t g) = Spec.scaleByte (ent x) t g := by
  unfold Spec.scaleByte
  rw [← exponent_apply]
  pointwise [k0_pay7]
  rfl

/-- The scale of a group. -/
theorem scale_apply (t : Fin 8) (g : Fin 256) :
    k0_pay9 (F := Ideal) (k0_pay3 x) (ix3 t 0 g) = Spec.scale (ent x) t g := by
  rw [← Spec.wscale_scaleByte]
  unfold Spec.wscale Spec.scaleByte
  rw [← exponent_apply]
  pointwise [k0_pay9, k0_pay7]
  rfl

variable (w : Vec Ideal S2816x8192 .fp8e4m3) (s : Vec Ideal S2816x256 .i8) (b : Vec Ideal S2816 .f32)

/-- The product of one group. -/
theorem dot_apply (t : Fin 8) (o : Fin 2816) (g : Fin 256) :
    k0_pay8 (F := Ideal) (k0_pay4 x) lo hi w (ix3 t o g)
      = ∑ k : Fin 32, Spec.code (ent x) t (Spec.at32 g k) * w (ix2 o (Spec.at32 g k)) := by
  pointwise [k0_pay8]
  refine Finset.sum_congr rfl fun k _ => ?_
  rw [code3_apply]
  exact congrArg (fun e => Spec.code (ent x) t (Spec.at32 g k) * w (ix2 o e))
    (Fin.ext (by show g.val * 32 + k.val = 32 * g.val + k.val; omega))

/-- The product with its scales and bias. -/
theorem out_apply (t : Fin 8) (o : Fin 2816) :
    k0_pay1 (F := Ideal) (k0_pay8 (k0_pay4 x) lo hi w) (k0_pay9 (k0_pay3 x)) (k0_pay10 s) b (ix2 t o)
      = Spec.out (ent x) (fun o k => w (ix2 o k)) (fun o g => s (ix2 o g)) (fun o => b (ix1 o)) t o := by
  unfold Spec.out Spec.term
  pointwise [k0_pay1, k0_pay10]
  refine congrArg (fun e : EReal => e + b (ix1 o)) (Finset.sum_congr rfl fun g _ => ?_)
  rw [dot_apply, scale_apply]
  rfl

/-! What the reference's three result arrays hold at the end. -/

variable (m : (ℓ : Loc nD τ sig) → Buf (Elt Ideal) ℓ) (ρ : Dev nD → PrngReg)

/-- The argument arrays' entries. -/
def xIn (c : Dev nD) : Fin 8 → Fin 8192 → EReal := fun t k => m ((c : Thread nD τ).loc main_arg0) (ix3 t (0 : Fin 1) k)
def wIn (c : Dev nD) : Fin 2816 → Fin 8192 → EReal := fun o k => m ((c : Thread nD τ).loc main_arg1) (ix2 o k)
def sIn (c : Dev nD) : Fin 2816 → Fin 256 → BitVec 8 := fun o g => m ((c : Thread nD τ).loc main_arg2) (ix2 o g)
def bIn (c : Dev nD) : Fin 2816 → EReal := fun o => m ((c : Thread nD τ).loc main_arg3) (ix1 o)

/-- Every window is its whole array. -/
theorem idx : ∀ t : Fin cfg0.N, win0_0.index t = ![0, 0] ∧ win0_1.index t = ![0, 0] ∧ win0_2.index t = ![0, 0]
    ∧ win0_3.index t = ![0] ∧ win0_4.index t = ![0, 0] ∧ win0_5.index t = ![0, 0] ∧ win0_6.index t = ![0, 0] := by
  decide +kernel

/-- The staged `x` is the argument, its unit axis dropped. -/
theorem ent_block (c : Dev nD) (t : Fin cfg0.N) : ent (iblk m c 0 t) = xIn m c := by
  funext u k
  unfold ent xIn
  obtain ⟨e0, -, -, -, -, -, -⟩ := idx t
  have h0 : (win0_0.blk t).view.emb (ix2 u k) = (ix2 u k : S8x8192.Idx) := by blk_ext [e0]
  blk_simp [iblk]
  rw [h0]
  entry_read
  pointwise

/-- The staged weights, their scale bytes and the bias are the arguments. -/
theorem w_block (c : Dev nD) (t : Fin cfg0.N) :
    (fun o k => (iblk m c 1 t : Vec Ideal S2816x8192 .fp8e4m3) (ix2 o k)) = wIn m c := by
  funext o k
  unfold wIn
  obtain ⟨-, e1, -, -, -, -, -⟩ := idx t
  blk_ext [iblk, V, e1]

theorem s_block (c : Dev nD) (t : Fin cfg0.N) :
    (fun o g => (iblk m c 2 t : Vec Ideal S2816x256 .i8) (ix2 o g)) = sIn m c := by
  funext o g
  unfold sIn
  obtain ⟨-, -, e2, -, -, -, -⟩ := idx t
  blk_ext [iblk, V, e2]

theorem b_block (c : Dev nD) (t : Fin cfg0.N) :
    (fun o => (iblk m c 3 t : Vec Ideal S2816 .f32) (ix1 o)) = bIn m c := by
  funext o
  unfold bIn
  obtain ⟨-, -, -, e3, -, -, -⟩ := idx t
  blk_ext [iblk, V, e3]

/-- Each load is the whole array. -/
theorem ld0 (x : Vec Ideal S8x8192 .bf16) : View.ld x r0_0 = x := by unfold r0_0; exact View.ld_unit_zero (by decide) _ _
theorem ld1 (x : Vec Ideal S2816x8192 .fp8e4m3) : View.ld x r0_2 = x := by unfold r0_2; exact View.ld_unit_zero (by decide) _ _
theorem ld2 (x : Vec Ideal S2816x256 .i8) : View.ld x r0_3 = x := by unfold r0_3; exact View.ld_unit_zero (by decide) _ _
theorem ld3 (x : Vec Ideal S2816 .f32) : View.ld x r0_4 = x := by unfold r0_4; exact View.ld_unit_zero (by decide) _ _

/-- The first result. -/
theorem final4 (c : Dev nD) : (dats m 0 c).arrAt 4 cfg0.N = fun i : S8x2816.Idx => Spec.out (xIn m c) (wIn m c) (sIn m c) (bIn m c) (i 0) (i 1) := by
  refine (dats m 0 c).arrAt_eq_of_covers 4 _ (by decide +kernel) fun t hf y => ?_
  obtain ⟨-, -, -, -, e4, -, -⟩ := idx t
  blk_simp
  rw [after0_4]
  obtain ⟨u, v, rfl⟩ : ∃ (u : Fin 8) (v : Fin 2816), y = ix2 u v := ⟨y 0, y 1, (ix2_eta y).symm⟩
  have h0 : (win0_4.blk t).view.emb (ix2 u v) = (ix2 u v : S8x2816.Idx) := by blk_ext [e4]
  rw [h0, ← ent_block m c t, ← w_block m c t, ← s_block m c t, ← b_block m c t]
  refine Eq.trans ?_ (out_apply (iblk m c 0 t) (iblk m c 1 t) (iblk m c 2 t) (iblk m c 3 t) u v)
  unfold_out out0_4
  rw [ld0, ld1, ld2, ld3]
  exact congrFun (View.canon_unit_zero (by decide) _ _) _

/-- The second result, the codes. -/
theorem final5 (c : Dev nD) : (dats m 0 c).arrAt 5 cfg0.N = fun i : S8x8192.Idx => Spec.code (xIn m c) (i 0) (i 1) := by
  refine (dats m 0 c).arrAt_eq_of_covers 5 _ (by decide +kernel) fun t hf y => ?_
  obtain ⟨-, -, -, -, -, e5, -⟩ := idx t
  blk_simp
  rw [after0_5]
  obtain ⟨u, v, rfl⟩ : ∃ (u : Fin 8) (v : Fin 8192), y = ix2 u v := ⟨y 0, y 1, (ix2_eta y).symm⟩
  have h0 : (win0_5.blk t).view.emb (ix2 u v) = (ix2 u v : S8x8192.Idx) := by blk_ext [e5]
  rw [h0, ← ent_block m c t]
  refine Eq.trans ?_ (codes_apply (iblk m c 0 t) u v)
  unfold_out out0_5
  rw [ld0]
  exact congrFun (View.canon_unit_zero (by decide) _ _) _

/-- The third result, the scale bytes. -/
theorem final6 (c : Dev nD) : (dats m 0 c).arrAt 6 cfg0.N = fun i : S8x256.Idx => Spec.scaleByte (xIn m c) (i 0) (i 1) := by
  refine (dats m 0 c).arrAt_eq_of_covers 6 _ (by decide +kernel) fun t hf y => ?_
  obtain ⟨-, -, -, -, -, -, e6⟩ := idx t
  blk_simp
  rw [after0_6]
  obtain ⟨u, v, rfl⟩ : ∃ (u : Fin 8) (v : Fin 256), y = ix2 u v := ⟨y 0, y 1, (ix2_eta y).symm⟩
  have h0 : (win0_6.blk t).view.emb (ix2 u v) = (ix2 u v : S8x256.Idx) := by blk_ext [e6]
  rw [h0, ← ent_block m c t]
  refine Eq.trans ?_ (bytes_apply (iblk m c 0 t) u v)
  unfold_out out0_6
  rw [ld0]
  exact congrFun (View.canon_unit_zero (by decide) _ _) _

/-- The run: the three results as the specification's arrays, the arguments unchanged. -/
theorem run : θ_run defs (onTc (τ := τ) (main (F := Ideal))) ⟨m, fun _ => 0, ρ⟩ fun r => ∀ c : Dev nD,
      r.2.mem ((c.tc : Thread nD τ).loc main_v1_0) = (fun i : S8x2816.Idx => Spec.out (xIn m c) (wIn m c) (sIn m c) (bIn m c) (i 0) (i 1))
      ∧ r.2.mem ((c.tc : Thread nD τ).loc main_v1_1) = (fun i : S8x8192.Idx => Spec.code (xIn m c) (i 0) (i 1))
      ∧ r.2.mem ((c.tc : Thread nD τ).loc main_v1_2) = (fun i : S8x256.Idx => Spec.scaleByte (xIn m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final4 m c), ((h c).1 5).trans (final5 m c), ((h c).1 6).trans (final6 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.ReferenceIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelFrame
public import proofs.«01_k».proof.Proof.Frame
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem

/-- From memories that agree on the arguments the kernel and the reference leave the same three arrays, at the reals:
    each is the specification's array of those arguments. -/
theorem algebraic : Cert.algebraic_KernelIdeal_ReferenceIdeal (hKernelIdeal := Cert.KernelIdeal.Gen.facts)
    (hReferenceIdeal := Cert.ReferenceIdeal.Gen.facts) := by
  intro m g m' g' _ hagree
  have hx : ∀ c, ReferenceIdeal.Hand.xIn m' c = KernelIdeal.Hand.xIn m c := fun c => by
    unfold ReferenceIdeal.Hand.xIn; rw [(hagree c).1]; rfl
  have hw : ∀ c, ReferenceIdeal.Hand.wIn m' c = KernelIdeal.Hand.wIn m c := fun c => by
    unfold ReferenceIdeal.Hand.wIn; rw [(hagree c).2.1]; rfl
  have hs : ∀ c, ReferenceIdeal.Hand.sIn m' c = KernelIdeal.Hand.sIn m c := fun c => by
    unfold ReferenceIdeal.Hand.sIn; rw [(hagree c).2.2.1]; rfl
  have hb : ∀ c, ReferenceIdeal.Hand.bIn m' c = KernelIdeal.Hand.bIn m c := fun c => by
    unfold ReferenceIdeal.Hand.bIn; rw [(hagree c).2.2.2]; rfl
  have href := ReferenceIdeal.Hand.run m' g'
  simp only [hx, hw, hs, hb] at href
  exact ⟨_, _, _, KernelIdeal.Hand.run m g, href⟩

/-- The five claims. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, algebraic⟩

end Cert.Proof

end
